-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x128 : Shape := ⟨2, ![64, 128]⟩
abbrev S64x3 : Shape := ⟨2, ![64, 3]⟩
abbrev S128x278850 : Shape := ⟨2, ![128, 278850]⟩
abbrev S33 : Shape := ⟨1, ![33]⟩
abbrev S139425 : Shape := ⟨1, ![139425]⟩
abbrev S139425x2 : Shape := ⟨2, ![139425, 2]⟩
abbrev S278850 : Shape := ⟨1, ![278850]⟩
abbrev S278850x1 : Shape := ⟨2, ![278850, 1]⟩
abbrev S_ : Shape := ⟨0, ![]⟩
abbrev S1 : Shape := ⟨1, ![1]⟩
abbrev S34 : Shape := ⟨1, ![34]⟩
abbrev S34x1 : Shape := ⟨2, ![34, 1]⟩
abbrev S3x64 : Shape := ⟨2, ![3, 64]⟩
abbrev S278850x64 : Shape := ⟨2, ![278850, 64]⟩
abbrev S64x278850 : Shape := ⟨2, ![64, 278850]⟩
abbrev S64x65x65x33x2 : Shape := ⟨5, ![64, 65, 65, 33, 2]⟩
abbrev S16384x1 : Shape := ⟨2, ![16384, 1]⟩
abbrev S128x16384 : Shape := ⟨2, ![128, 16384]⟩
abbrev S16384x64 : Shape := ⟨2, ![16384, 64]⟩
abbrev S1x64 : Shape := ⟨2, ![1, 64]⟩
abbrev S34x64 : Shape := ⟨2, ![34, 64]⟩
abbrev S16384x34 : Shape := ⟨2, ![16384, 34]⟩

abbrev nBuf : Space → Nat
  | .hbm => 16
  | .vmem => 9
  | .smem => 0
  | _ => 0

abbrev bufTy : (tb : Table) → Fin (tcTables nBuf tb) → BufTy
  | .hbm, ⟨0, _⟩ => ⟨S64x128, .f32⟩
  | .hbm, ⟨1, _⟩ => ⟨S64x3, .f32⟩
  | .hbm, ⟨2, _⟩ => ⟨S128x278850, .f32⟩
  | .hbm, ⟨3, _⟩ => ⟨S33, .f32⟩
  | .hbm, ⟨4, _⟩ => ⟨S139425, .i32⟩
  | .hbm, ⟨5, _⟩ => ⟨S139425x2, .i32⟩
  | .hbm, ⟨6, _⟩ => ⟨S278850, .i32⟩
  | .hbm, ⟨7, _⟩ => ⟨S278850x1, .i32⟩
  | .hbm, ⟨8, _⟩ => ⟨S_, .f32⟩
  | .hbm, ⟨9, _⟩ => ⟨S1, .f32⟩
  | .hbm, ⟨10, _⟩ => ⟨S34, .f32⟩
  | .hbm, ⟨11, _⟩ => ⟨S34x1, .f32⟩
  | .hbm, ⟨12, _⟩ => ⟨S3x64, .f32⟩
  | .hbm, ⟨13, _⟩ => ⟨S278850x64, .f32⟩
  | .hbm, ⟨14, _⟩ => ⟨S64x278850, .f32⟩
  | .hbm, ⟨15, _⟩ => ⟨S64x65x65x33x2, .f32⟩
  | .local _ .vmem, ⟨0, _⟩ => ⟨S3x64, .f32⟩
  | .local _ .vmem, ⟨1, _⟩ => ⟨S34x1, .f32⟩
  | .local _ .vmem, ⟨2, _⟩ => ⟨S16384x1, .i32⟩
  | .local _ .vmem, ⟨3, _⟩ => ⟨S16384x1, .i32⟩
  | .local _ .vmem, ⟨4, _⟩ => ⟨S64x128, .f32⟩
  | .local _ .vmem, ⟨5, _⟩ => ⟨S128x16384, .f32⟩
  | .local _ .vmem, ⟨6, _⟩ => ⟨S128x16384, .f32⟩
  | .local _ .vmem, ⟨7, _⟩ => ⟨S16384x64, .f32⟩
  | .local _ .vmem, ⟨8, _⟩ => ⟨S16384x64, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c8_i32 : BitVec 32 := 8#32
  let v39 : BitVec 1 := Scalar.cmpi .eq arg0 c8_i32
  let v40 : BitVec 32 := Scalar.extui v39
  let c0_i32 : BitVec 32 := 0#32
  let v41 : BitVec 1 := Scalar.cmpi .ne v40 c0_i32
  v41

def k0_cond2 (i : grid0.Coords) : BitVec 1 :=
  let arg0 : BitVec 32 := BitVec.ofNat 32 (i 0).val
  let c8_i32_15 : BitVec 32 := 8#32
  let v42 : BitVec 1 := Scalar.cmpi .ne arg0 c8_i32_15
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S34x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x128 : Shape := ⟨2, ![64, 128]⟩
abbrev S64x3 : Shape := ⟨2, ![64, 3]⟩
abbrev S128x278850 : Shape := ⟨2, ![128, 278850]⟩
abbrev S33 : Shape := ⟨1, ![33]⟩
abbrev S65x65x33 : Shape := ⟨3, ![65, 65, 33]⟩
abbrev S_ : Shape := ⟨0, ![]⟩
abbrev S64x278850 : Shape := ⟨2, ![64, 278850]⟩
abbrev S64x65x65x33x2 : Shape := ⟨5, ![64, 65, 65, 33, 2]⟩
abbrev S64x1 : Shape := ⟨2, ![64, 1]⟩
abbrev S64 : Shape := ⟨1, ![64]⟩
abbrev S64x1x1x1 : Shape := ⟨4, ![64, 1, 1, 1]⟩
abbrev S1x65x65x33 : Shape := ⟨4, ![1, 65, 65, 33]⟩
abbrev S64x65x65x33 : Shape := ⟨4, ![64, 65, 65, 33]⟩
abbrev S64x1x1x1x1 : Shape := ⟨5, ![64, 1, 1, 1, 1]⟩
abbrev S1x65x65x33x1 : Shape := ⟨5, ![1, 65, 65, 33, 1]⟩
abbrev S64x65x65x33x1 : Shape := ⟨5, ![64, 65, 65, 33, 1]⟩
abbrev S65x65x33x1 : Shape := ⟨4, ![65, 65, 33, 1]⟩

abbrev nBuf : Space → Nat
  | .hbm => 95
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x3, .f32⟩
  | .hbm, ⟨2, _⟩ => ⟨S128x278850, .f32⟩
  | .hbm, ⟨3, _⟩ => ⟨S33, .f32⟩
  | .hbm, ⟨4, _⟩ => ⟨S65x65x33, .i32⟩
  | .hbm, ⟨5, _⟩ => ⟨S_, .i32⟩
  | .hbm, ⟨6, _⟩ => ⟨S65x65x33, .i32⟩
  | .hbm, ⟨7, _⟩ => ⟨S65x65x33, .i32⟩
  | .hbm, ⟨8, _⟩ => ⟨S65x65x33, .i32⟩
  | .hbm, ⟨9, _⟩ => ⟨S_, .i32⟩
  | .hbm, ⟨10, _⟩ => ⟨S65x65x33, .i32⟩
  | .hbm, ⟨11, _⟩ => ⟨S65x65x33, .i32⟩
  | .hbm, ⟨12, _⟩ => ⟨S65x65x33, .i32⟩
  | .hbm, ⟨13, _⟩ => ⟨S65x65x33, .i32⟩
  | .hbm, ⟨14, _⟩ => ⟨S65x65x33, .i32⟩
  | .hbm, ⟨15, _⟩ => ⟨S65x65x33, .i32⟩
  | .hbm, ⟨16, _⟩ => ⟨S65x65x33, .i32⟩
  | .hbm, ⟨17, _⟩ => ⟨S65x65x33, .i32⟩
  | .hbm, ⟨18, _⟩ => ⟨S65x65x33, .f32⟩
  | .hbm, ⟨19, _⟩ => ⟨S65x65x33, .f32⟩
  | .hbm, ⟨20, _⟩ => ⟨S_, .f32⟩
  | .hbm, ⟨21, _⟩ => ⟨S65x65x33, .f32⟩
  | .hbm, ⟨22, _⟩ => ⟨S65x65x33, .i1⟩
  | .hbm, ⟨23, _⟩ => ⟨S65x65x33, .f32⟩
  | .hbm, ⟨24, _⟩ => ⟨S65x65x33, .i32⟩
  | .hbm, ⟨25, _⟩ => ⟨S64x278850, .f32⟩
  | .hbm, ⟨26, _⟩ => ⟨S64x65x65x33x2, .f32⟩
  | .hbm, ⟨27, _⟩ => ⟨S64x1, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .i1⟩
  | .hbm, ⟨35, _⟩ => ⟨S_, .f32⟩
  | .hbm, ⟨36, _⟩ => ⟨S64, .f32⟩
  | .hbm, ⟨37, _⟩ => ⟨S64, .i1⟩
  | .hbm, ⟨38, _⟩ => ⟨S_, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64x1x1x1, .f32⟩
  | .hbm, ⟨51, _⟩ => ⟨S64x1x1x1, .f32⟩
  | .hbm, ⟨52, _⟩ => ⟨S65x65x33, .f32⟩
  | .hbm, ⟨53, _⟩ => ⟨S1x65x65x33, .f32⟩
  | .hbm, ⟨54, _⟩ => ⟨S64x65x65x33, .f32⟩
  | .hbm, ⟨55, _⟩ => ⟨S64x65x65x33, .f32⟩
  | .hbm, ⟨56, _⟩ => ⟨S64x65x65x33, .f32⟩
  | .hbm, ⟨57, _⟩ => ⟨S64x65x65x33, .f32⟩
  | .hbm, ⟨58, _⟩ => ⟨S64x65x65x33x2, .i32⟩
  | .hbm, ⟨59, _⟩ => ⟨S_, .i32⟩
  | .hbm, ⟨60, _⟩ => ⟨S64x65x65x33x2, .i32⟩
  | .hbm, ⟨61, _⟩ => ⟨S64x65x65x33x2, .i1⟩
  | .hbm, ⟨62, _⟩ => ⟨S64x1, .f32⟩
  | .hbm, ⟨63, _⟩ => ⟨S64, .f32⟩
  | .hbm, ⟨64, _⟩ => ⟨S64x1x1x1x1, .f32⟩
  | .hbm, ⟨65, _⟩ => ⟨S_, .f32⟩
  | .hbm, ⟨66, _⟩ => ⟨S_, .f32⟩
  | .hbm, ⟨67, _⟩ => ⟨S64x65x65x33x2, .f32⟩
  | .hbm, ⟨68, _⟩ => ⟨S64x65x65x33x2, .f32⟩
  | .hbm, ⟨69, _⟩ => ⟨S64x65x65x33x2, .f32⟩
  | .hbm, ⟨70, _⟩ => ⟨S_, .i32⟩
  | .hbm, ⟨71, _⟩ => ⟨S65x65x33, .i32⟩
  | .hbm, ⟨72, _⟩ => ⟨S65x65x33, .i1⟩
  | .hbm, ⟨73, _⟩ => ⟨S1x65x65x33x1, .i1⟩
  | .hbm, ⟨74, _⟩ => ⟨S64x65x65x33x2, .i1⟩
  | .hbm, ⟨75, _⟩ => ⟨S64x65x65x33x2, .f32⟩
  | .hbm, ⟨76, _⟩ => ⟨S64x1, .f32⟩
  | .hbm, ⟨77, _⟩ => ⟨S64, .f32⟩
  | .hbm, ⟨78, _⟩ => ⟨S64x1x1x1x1, .f32⟩
  | .hbm, ⟨79, _⟩ => ⟨S64x65x65x33x1, .f32⟩
  | .hbm, ⟨80, _⟩ => ⟨S64x65x65x33x1, .f32⟩
  | .hbm, ⟨81, _⟩ => ⟨S64x65x65x33x1, .f32⟩
  | .hbm, ⟨82, _⟩ => ⟨S64x65x65x33x2, .f32⟩
  | .hbm, ⟨83, _⟩ => ⟨S64x65x65x33x2, .f32⟩
  | .hbm, ⟨84, _⟩ => ⟨S65x65x33x1, .i32⟩
  | .hbm, ⟨85, _⟩ => ⟨S65x65x33, .f32⟩
  | .hbm, ⟨86, _⟩ => ⟨S1x65x65x33x1, .f32⟩
  | .hbm, ⟨87, _⟩ => ⟨S64x65x65x33x2, .f32⟩
  | .hbm, ⟨88, _⟩ => ⟨S64x65x65x33x2, .f32⟩
  | .hbm, ⟨89, _⟩ => ⟨S1x65x65x33x1, .i1⟩
  | .hbm, ⟨90, _⟩ => ⟨S_, .f32⟩
  | .hbm, ⟨91, _⟩ => ⟨S_, .f32⟩
  | .hbm, ⟨92, _⟩ => ⟨S64x65x65x33x2, .i1⟩
  | .hbm, ⟨93, _⟩ => ⟨S64x65x65x33x2, .f32⟩
  | .hbm, ⟨94, _⟩ => ⟨S64x65x65x33x2, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_cst_0 : Ref sig .tc := ⟨.hbm, 35, rfl⟩
abbrev main_call1_v2 : Ref sig .tc := ⟨.hbm, 36, rfl⟩
abbrev main_call1_v3 : Ref sig .tc := ⟨.hbm, 37, rfl⟩
abbrev main_call1_cst_1 : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_v4 : Ref sig .tc := ⟨.hbm, 41, rfl⟩
abbrev main_call1_v5 : Ref sig .tc := ⟨.hbm, 42, rfl⟩
abbrev main_call1_cst_2 : Ref sig .tc := ⟨.hbm, 43, rfl⟩
abbrev main_call1_v6 : Ref sig .tc := ⟨.hbm, 44, rfl⟩
abbrev main_call1_v7 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v41 : Ref sig .tc := ⟨.hbm, 69, rfl⟩
abbrev main_c_5 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call3_v0 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call4_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_6 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Proof.KernelFrame.lean ====
/-
  The certified kernel runs, at any float values: from any memory with zero counters every execution terminates, the
  argument arrays end unchanged and every semaphore counter reads zero. Nothing is said here of the result.
-/
module

public import proofs.«01_k».proof.Proof.KernelBody

@[expose] public section

noncomputable section

namespace Cert.Proof.KernelRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shell block at point `t`, filled out to the whole buffer. -/
def shellBlk (d : S16384x1.Idx → Elt F .i32) (c : Dev nD) (t : Fin cfg0.N) : S16384x1.Idx → Elt F .i32 :=
  win0_2.fill (grid0.coords t) d (iblk m c 2 t)

/-- The weight block at point `t`, filled out to the whole buffer. -/
def weightBlk (d : S128x16384.Idx → Elt F .f32) (c : Dev nD) (t : Fin cfg0.N) : S128x16384.Idx → Elt F .f32 :=
  win0_4.fill (grid0.coords t) d (iblk m c 4 t)

/-- The proof data: the arrays as the host lines leave them, the inputs' buffers at their blocks, and the result's
    at the block the body computes of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => shellBlk m (fun _ => 0#32) c t
    | ⟨3, _⟩ => iblk m c 3 t
    | ⟨4, _⟩ => weightBlk m (fun _ => Scalar.ofBits .f32 0#32) c t
    | ⟨5, _⟩ => outBlk (grid0.coords t) (iblk m c 0 t) (iblk m c 1 t) (shellBlk m (fun _ => 0#32) c t) (iblk m c 3 t)
        (weightBlk m (fun _ => Scalar.ofBits .f32 0#32) c t)
  Φ _ := Pipeline.ΦA spec0 c
  q _ := fullShare
  owed _ := 0

/-- What window 0 holds when a step begins. -/
theorem before_0 (c : Dev nD) (t : Fin cfg0.N) (d) : (dats m 0 c).before (0 : Fin 6) t d = iblk m c 0 t :=
  before0_0_of m (dats m 0 c) rfl (fun _ => rfl) t d
/-- What window 1 holds when a step begins. -/
theorem before_1 (c : Dev nD) (t : Fin cfg0.N) (d) : (dats m 0 c).before (1 : Fin 6) t d = iblk m c 1 t :=
  before0_1_of m (dats m 0 c) rfl (fun _ => rfl) t d
/-- What window 2 holds when a step begins. -/
theorem before_2 (c : Dev nD) (t : Fin cfg0.N) (d) : (dats m 0 c).before (2 : Fin 6) t d = shellBlk m d c t := by
  unfold Dat.before; rw [if_pos (fetch0_2 t)]; rfl
/-- What window 3 holds when a step begins. -/
theorem before_3 (c : Dev nD) (t : Fin cfg0.N) (d) : (dats m 0 c).before (3 : Fin 6) t d = iblk m c 3 t :=
  before0_3_of m (dats m 0 c) rfl (fun _ => rfl) t d
/-- What window 4 holds when a step begins. -/
theorem before_4 (c : Dev nD) (t : Fin cfg0.N) (d) : (dats m 0 c).before (4 : Fin 6) t d = weightBlk m d c t := by
  unfold Dat.before; rw [if_pos (fetch0_4 t)]; rfl

/-- The result's window, of which the frame reads nothing. -/
def forgetOut : Fin cfg0.W → Bool := fun w => w == (5 : Fin 6)

/-- The library's body obligation, the result's buffer left at contents nothing names. -/
theorem body_obligation (c : Dev nD) :
    BodyObligationLoose (dats m 0 c) (defs₀ (F := F)) 𝒱₀ () Set.univ forgetOut := fun t => by
  rw [bigSep_W0, bigSep_W0]
  simp only [show forgetOut (0 : Fin 6) = false from rfl, show forgetOut (1 : Fin 6) = false from rfl,
    show forgetOut (2 : Fin 6) = false from rfl, show forgetOut (3 : Fin 6) = false from rfl,
    show forgetOut (4 : Fin 6) = false from rfl, show forgetOut (5 : Fin 6) = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%X, H5⟩⟩
  rw [before_0 m c t d0, before_1 m c t d1, before_2 m c t d2, before_3 m c t d3, before_4 m c t d4]
  iapply (body_run (F := F) c Set.univ (grid0.coords t) _ _ _ _ _ _ _ _ _ _ _ _
    (iblk m c 0 t) (iblk m c 1 t) (shellBlk m d2 c t) (iblk m c 3 t) (weightBlk m d4 c t) X _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  have h2 : win0_2.cut (grid0.coords t) (shellBlk m (fun _ => 0#32) c t) = iblk m c 2 t := win0_2.cut_fill _ _ _
  have h4 : win0_4.cut (grid0.coords t) (weightBlk m (fun _ => Scalar.ofBits .f32 0#32) c t) = iblk m c 4 t :=
    win0_4.cut_fill _ _ _
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (shellBlk m (fun _ => 0#32) c t)))
    rw [h2]; exact .rfl
  isplitl [H3]; · iexact H3
  isplitl [H4]
  · iexists d4
    change _ ⊢ owns (c : Thread nD τ) (st0_4 t) fullShare (win0_4.fill (grid0.coords t) d4 (win0_4.cut (grid0.coords t) (weightBlk m (fun _ => Scalar.ofBits .f32 0#32) c t)))
    rw [h4]; exact .rfl
  iexists _; iexact H5

/-- The two buffers the host lines after the kernel write. -/
def tailBufs : Finset (Ref sig .tc) := {main_call0_v8, main_v0}

/-- They write no other. -/
theorem tail_writes : ∀ ops ∈ ([hostOps1] : List (List (HloOp τ sig (Elt F)))), ∀ op ∈ ops, ∀ b : Ref sig .tc,
    Proc.devRef .tc b ∈ op.writes → b ∈ tailBufs := by
  intro ops hops op hop b hb
  simp only [List.mem_cons, List.mem_nil_iff, or_false] at hops
  subst hops
  simp only [hostOps1, List.mem_cons, List.mem_nil_iff, or_false] at hop
  rcases hop with rfl | rfl
  all_goals
    simp only [StableHlo.unary_writes, StableHlo.reshape_writes, Finset.mem_singleton] at hb
    have hb := Proc.devRef_injective _ hb
    subst hb; decide

set_option backward.isDefEq.respectTransparency.types false in
/-- The frame: every execution terminates with the four arguments as they were and every counter at zero. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_T_forget cfgs (dats m) (0 : Fin 1) launch0 defs₀ 𝒱₀ forgetOut tailBufs m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hT := tail_writes) (hmain := hmain m 𝒱₀) (hA := fun _ _ => rfl) (hΦ := fun _ _ => rfl)
    (Q' := _) (hQ' := fun _ ⟨h, hz⟩ => ⟨fun c =>
      ⟨(Pipeline.RDat.FramePostR.arr_in h c (3 : Fin 6) rfl).trans (V_main_arg0 m c),
        ((h c).2 main_arg1 (by decide)).trans (V_main_arg1 m c),
        (Pipeline.RDat.FramePostR.arr_in h c (4 : Fin 6) rfl).trans (V_main_arg2 m c),
        ((h c).2 main_arg3 (by decide)).trans (V_main_arg3 m c)⟩, hz⟩)

end Cert.Proof.KernelRun
-- ==== Proof.IdealBody.lean ====
/-
  What one execution of the kernel body does to its six staging buffers, at any float values: the five inputs keep
  their contents and the result's buffer ends holding `outBlk` of them.
-/
module

public import proofs.«01_k».proof.Proof.Gen.KernelIdeal.Skeleton
public import proofs.«01_k».proof.Proof.Gen.KernelIdeal.Frame
public import Idealize.ShloMosaic.Lib.WritesUnit
public import Idealize.ShloMosaic.Lib.Tactic

@[expose] public section

noncomputable section

namespace Cert.Proof.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

/-- Row `r` of the parameter block, as the body loads it. -/
def ppRow (r : Fin 2 → Nat) (h : ∀ a, r a + S1x64.size a ≤ S3x64.size a) (X1 : S3x64.Idx → Elt F .f32) : Vec F S1x64 .f32 :=
  View.ld X1 (Rect.unit (s := S3x64) r S1x64.size h)

/-- The scale of each shell and batch: amplitude times modulation times spectral factor. -/
def scaleTab (X1 : S3x64.Idx → Elt F .f32) (X2 : S34x1.Idx → Elt F .f32) : FVec F S34x64 .f32 :=
  k0_pay2 (ppRow ![1, 0] inb_S3x64_S1x64_1_0 X1) (ppRow ![2, 0] inb_S3x64_S1x64_2_0 X1)
    (View.ld X2 (Rect.unit (s := S34x1) ![0, 0] S34x1.size inb_S34x1_S34x1_0_0))

/-- The block the body computes before it treats the zero frequency. -/
def plainBlk (X1 : S3x64.Idx → Elt F .f32) (X2 : S34x1.Idx → Elt F .f32) (X3 : S16384x1.Idx → Elt F .i32)
    (X4 : S64x128.Idx → Elt F .f32) (X5 : S128x16384.Idx → Elt F .f32) : FVec F S16384x64 .f32 :=
  k0_pay3 (ppRow ![1, 0] inb_S3x64_S1x64_1_0 X1) (ppRow ![2, 0] inb_S3x64_S1x64_2_0 X1)
    (View.ld X2 (Rect.unit (s := S34x1) ![0, 0] S34x1.size inb_S34x1_S34x1_0_0))
    (View.ld X3 (Rect.unit (s := S16384x1) ![0, 0] S16384x1.size inb_S16384x1_S16384x1_0_0))
    (View.ld X5 (Rect.unit (s := S128x16384) ![0, 0] S128x16384.size inb_S128x16384_S128x16384_0_0))
    (View.ld X4 (Rect.unit (s := S64x128) ![0, 0] S64x128.size inb_S64x128_S64x128_0_0))

/-- The block the body leaves at grid point `i`. -/
def outBlk (i : grid0.Coords) (X1 : S3x64.Idx → Elt F .f32) (X2 : S34x1.Idx → Elt F .f32) (X3 : S16384x1.Idx → Elt F .i32)
    (X4 : S64x128.Idx → Elt F .f32) (X5 : S128x16384.Idx → Elt F .f32) : S16384x64.Idx → Elt F .f32 :=
  if k0_cond1 i = 1#1 then
    k0_pay1 (scaleTab X1 X2) (plainBlk X1 X2 X3 X4 X5) (ppRow ![0, 0] inb_S3x64_S1x64_0_0 X1)
  else plainBlk X1 X2 X3 X4 X5

/-- A word of a coordinate below 18 differs from 8 exactly where it does not equal 8: at each point one of the two
    branches of the body runs. -/
theorem cond2_iff (i : grid0.Coords) : k0_cond2 i = 1#1 ↔ ¬ k0_cond1 i = 1#1 := by
  unfold k0_cond1 k0_cond2
  generalize i 0 = x
  change Fin 18 at x
  revert x
  decide

/-- A store over the whole buffer leaves its payload. -/
theorem read_store_whole (M : Memref sig .tc .vmem S16384x64 .f32) (f : M.view.ty.Contents (Elt F)) (w : S16384x64.Idx → Elt F .f32) :
    M.view.read (Elt F) (M.view.writes (Elt F) f
      [⟨Rect.unit (s := S16384x64) ![0, 0] S16384x64.size inb_S16384x64_S16384x64_0_0, w⟩]) = w := by
  funext y
  exact View.read_writes_cons_unit_of_mem M.view f inb_S16384x64_S16384x64_0_0 w [] y y rfl
    (fun a => by match a with | ⟨0, _⟩ => exact (Nat.zero_add _).symm | ⟨1, _⟩ => exact (Nat.zero_add _).symm)

/-- The kernel body on any staging buffers: the five inputs keep their contents, the result's buffer ends at
    `outBlk` of them. -/
theorem body_run (c : Dev nD) (E : Set ℕ) (i : grid0.Coords)
    (M1 : Memref sig .tc .vmem S3x64 .f32) (h1 : M1.IsWhole) (M2 : Memref sig .tc .vmem S34x1 .f32) (h2 : M2.IsWhole)
    (M3 : Memref sig .tc .vmem S16384x1 .i32) (h3 : M3.IsWhole) (M4 : Memref sig .tc .vmem S64x128 .f32) (h4 : M4.IsWhole)
    (M5 : Memref sig .tc .vmem S128x16384 .f32) (h5 : M5.IsWhole) (M6 : Memref sig .tc .vmem S16384x64 .f32) (h6 : M6.IsWhole)
    (X1 : S3x64.Idx → Elt F .f32) (X2 : S34x1.Idx → Elt F .f32) (X3 : S16384x1.Idx → Elt F .i32)
    (X4 : S64x128.Idx → Elt F .f32) (X5 : S128x16384.Idx → Elt F .f32) (X6 : S16384x64.Idx → Elt F .f32)
    (K : PUnit → sProp 𝕄) :
    iprop((owns (c : Thread nD τ) M1 fullShare X1 ∗ owns (c : Thread nD τ) M2 fullShare X2
            ∗ owns (c : Thread nD τ) M3 fullShare X3 ∗ owns (c : Thread nD τ) M4 fullShare X4
            ∗ owns (c : Thread nD τ) M5 fullShare X5 ∗ owns (c : Thread nD τ) M6 fullShare X6)
          ∗ (iprop(owns (c : Thread nD τ) M1 fullShare X1 ∗ owns (c : Thread nD τ) M2 fullShare X2
            ∗ owns (c : Thread nD τ) M3 fullShare X3 ∗ owns (c : Thread nD τ) M4 fullShare X4
            ∗ owns (c : Thread nD τ) M5 fullShare X5 ∗ owns (c : Thread nD τ) M6 fullShare (outBlk i X1 X2 X3 X4 X5)) -∗ K ⟨⟩))
      ⊢ wp frame (wpE (defs₀ (F := F)) 𝒱₀ c none) E
          (cc0__decoder_kernel i M1 h1 M2 h2 M3 h3 M4 h4 M5 h5 M6 h6) K := by
  simp only [cc0__decoder_kernel_eq_skeleton]; unfold cc0__decoder_kernel_skel
  simp only [k0_part1_eq_skeleton]; unfold k0_part1_skel
  simp only [Prog.lift, Prog.bind_op, Prog.bind_ret]
  iintro ⟨⟨H1, H2, H3, H4, H5, H6⟩, Hk⟩
  unfold owns
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  subst hf1 hf2 hf3 hf4 hf5
  by_cases hc1 : k0_cond1 i = 1#1
  · have hc2 : ¬ k0_cond2 i = 1#1 := fun h => (cond2_iff i).mp h hc1
    sl_exec
    rw [wp_ret]; imodintro
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    iexists _; isplitr
    · ipureintro
      unfold outBlk; rw [if_pos hc1]
      exact read_store_whole M6 f6 _
    · iexact H6
  · have hc2 : k0_cond2 i = 1#1 := (cond2_iff i).mpr hc1
    sl_exec
    rw [wp_ret]; imodintro
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    iexists _; isplitr
    · ipureintro
      unfold outBlk; rw [if_neg hc1]
      exact read_store_whole M6 f6 _
    · iexact H6

end Cert.Proof.IdealRun
-- ==== Proof.Decoder.lean ====
/-
  The decoder's arithmetic over the extended reals, which the kernel's blocks and the reference are both read as.
-/
module

public import Idealize.ShloMosaic.Lib.Pointwise

@[expose] public section

noncomputable section

namespace Cert.Proof

open Idealize.ShloMosaic

/-- The decay rate of an image: `elu (x - 5) + 1` of its third parameter. -/
def decay (x : EReal) : EReal :=
  (if 0 < x - Ideal.ofBits FTy.f32 1084227584#32 then x - Ideal.ofBits FTy.f32 1084227584#32
    else Ideal.exp (x - Ideal.ofBits FTy.f32 1084227584#32) - 1) + 1

/-- The scale of shell `w`: the amplitude `p1`, the decay with the shell's radius, and the shell's spectral factor
    `q`. -/
def scaleOf (p1 p2 q : EReal) (w : BitVec 32) : EReal :=
  p1 * Ideal.exp ((0 - decay p2) * FloatOps.sitofp (F := Ideal) FTy.f32 w) * q

/-- A shell of spectral factor zero has scale zero. -/
theorem scaleOf_zero (p1 p2 : EReal) (w : BitVec 32) : scaleOf p1 p2 0 w = 0 := mul_zero _

end Cert.Proof
-- ==== Proof.IdealBlock.lean ====
/-
  What the body's block holds over the extended reals, entry by entry: a product of a weighted sum and the scale of the
  row's shell, and on two rows of tile 8 the zero frequency's values.
-/
module

public import proofs.«01_k».proof.Proof.IdealBody
public import proofs.«01_k».proof.Proof.Decoder

@[expose] public section

noncomputable section

namespace Cert.Proof.IdealRun

open Cert.KernelIdeal Cert.KernelIdeal.Gen
open Idealize.ShloMosaic

/-- The scale table at shell `s` and image `b`. -/
theorem pay2_apply (v0 v2 : Vec Ideal S1x64 .f32) (v23 : Vec Ideal S34x1 .f32) (s : Fin 34) (b : Fin 64) :
    k0_pay2 v0 v2 v23 (ix2 s b)
      = scaleOf (v0 (ix2 0 b)) (v2 (ix2 0 b)) (v23 (ix2 s 0)) (BitVec.ofNat 32 s.val) := by
  pointwise [k0_pay2, scaleOf, decay]

/-- The one-hot row of a word below 34: its sum against a table picks the word's entry. -/
theorem oneHot_sum (w : BitVec 32) (hw : w.toNat < 34) (f : Fin 34 → EReal) :
    (∑ x : Fin 34, FloatOps.sitofp (F := Ideal) FTy.f32
        (BitVec.setWidth 32 (IntOp.cmpi CmpIPredicate.eq w (BitVec.ofNat 32 x.val))) * f x) = f ⟨w.toNat, hw⟩ := by
  rw [Finset.sum_eq_single (⟨w.toNat, hw⟩ : Fin 34)]
  · have : IntOp.cmpi CmpIPredicate.eq w (BitVec.ofNat 32 w.toNat) = 1#1 := by
      simp [IntOp.cmpi]
    rw [this]
    have : FloatOps.sitofp (F := Ideal) FTy.f32 (BitVec.setWidth 32 1#1) = (1 : EReal) := by
      show (((BitVec.setWidth 32 1#1).toInt : ℝ) : EReal) = 1
      have : (BitVec.setWidth 32 1#1).toInt = 1 := by decide
      rw [this]; norm_num
    rw [this, one_mul]
  · intro x _ hx
    have : IntOp.cmpi CmpIPredicate.eq w (BitVec.ofNat 32 x.val) = 0#1 := by
      have hne : w ≠ BitVec.ofNat 32 x.val := by
        intro h; apply hx; apply Fin.ext
        have := congrArg BitVec.toNat h
        rw [BitVec.toNat_ofNat] at this
        have := x.isLt
        simp only; omega
      show BitVec.ofBool (w == BitVec.ofNat 32 x.val) = 0#1
      rw [beq_eq_false_iff_ne.mpr hne]; rfl
    rw [this]
    have : FloatOps.sitofp (F := Ideal) FTy.f32 (BitVec.setWidth 32 0#1) = (0 : EReal) := by
      show (((BitVec.setWidth 32 0#1).toInt : ℝ) : EReal) = 0
      have : (BitVec.setWidth 32 0#1).toInt = 0 := by decide
      rw [this]; norm_num
    rw [this, zero_mul]
  · intro h; exact absurd (Finset.mem_univ _) h

/-- The block before the zero frequency: entry `(r, b)` reads only row `r` of the shells and column `r` of the
    weights. -/
theorem pay3_apply (v0 v2 : Vec Ideal S1x64 .f32) (v23 : Vec Ideal S34x1 .f32) (v27 : Vec Ideal S16384x1 .i32)
    (v35 : Vec Ideal S128x16384 .f32) (v36 : Vec Ideal S64x128 .f32) (r : Fin 16384) (b : Fin 64) :
    k0_pay3 v0 v2 v23 v27 v35 v36 (ix2 r b)
      = (∑ k : Fin 128, v35 (ix2 k r) * v36 (ix2 b k)) *
        ∑ x : Fin 34, FloatOps.sitofp (F := Ideal) FTy.f32
          (BitVec.setWidth 32 (IntOp.cmpi CmpIPredicate.eq (v27 (ix2 r 0)) (BitVec.ofNat 32 x.val))) * k0_pay2 v0 v2 v23 (ix2 x b) := by
  pointwise [k0_pay3]

/-- The zero frequency's rows: 8320 holds the image's mean times the scale of shell 0, 8321 zero. -/
theorem pay1_apply (v26 : FVec Ideal S34x64 .f32) (v38 : FVec Ideal S16384x64 .f32) (v46 : Vec Ideal S1x64 .f32)
    (r : Fin 16384) (b : Fin 64) :
    k0_pay1 v26 v38 v46 (ix2 r b)
      = if r.val = 8321 then 0 else if r.val = 8320 then v46 (ix2 0 b) * v26 (ix2 0 b) else v38 (ix2 r b) := by
  have hc (n : Nat) (hn : n < 16384) : IntOp.cmpi CmpIPredicate.eq (BitVec.ofNat 32 r.val) (BitVec.ofNat 32 n) = if r.val = n then 1#1 else 0#1 := by
    have hr := r.isLt
    by_cases h : r.val = n
    · simp [IntOp.cmpi, h]
    · have : BitVec.ofNat 32 r.val ≠ BitVec.ofNat 32 n := by
        intro e; apply h
        have := congrArg BitVec.toNat e
        rw [BitVec.toNat_ofNat, BitVec.toNat_ofNat] at this
        omega
      rw [if_neg h]
      show BitVec.ofBool (BitVec.ofNat 32 r.val == BitVec.ofNat 32 n) = 0#1
      rw [beq_eq_false_iff_ne.mpr this]; rfl
  have h1 := hc 8321 (by decide)
  have h0 := hc 8320 (by decide)
  pointwise [k0_pay1]
  rw [h1, h0]
  split_ifs <;> simp [Scalar.select]

/-- A load of one row of the parameters, at an image. -/
theorem ppRow_apply (o : Fin 2 → Nat) (h : ∀ a, o a + S1x64.size a ≤ S3x64.size a) (X1 : S3x64.Idx → Elt Ideal .f32)
    (r : Fin 3) (hr : o 0 = r.val) (h1 : o 1 = 0) (b : Fin 64) : ppRow o h X1 (ix2 0 b) = X1 (ix2 r b) := by
  refine congrArg X1 (funext fun a => Fin.ext ?_)
  match a with
  | ⟨0, _⟩ => show o 0 + 1 * 0 = r.val; omega
  | ⟨1, _⟩ => show o 1 + 1 * b.val = b.val; omega

/-- A load of a whole buffer of rank 2 is its contents. -/
theorem ld_whole {e : EltTy} {p q : Nat} (X : (⟨2, ![p, q]⟩ : Shape).Idx → Elt Ideal e)
    (h : ∀ a, (![0, 0] : Fin 2 → Nat) a + (⟨2, ![p, q]⟩ : Shape).size a ≤ (⟨2, ![p, q]⟩ : Shape).size a) :
    View.ld X (Rect.unit (s := ⟨2, ![p, q]⟩) ![0, 0] (⟨2, ![p, q]⟩ : Shape).size h) = X := by
  funext y
  refine congrArg X (funext fun a => Fin.ext ?_)
  match a with
  | ⟨0, _⟩ => show 0 + 1 * (y 0).val = (y 0).val; omega
  | ⟨1, _⟩ => show 0 + 1 * (y 1).val = (y 1).val; omega

/-- The sum a row's one-hot picks a table's entry by. -/
def pick (w : BitVec 32) (f : Fin 34 → EReal) : EReal :=
  ∑ x : Fin 34, FloatOps.sitofp (F := Ideal) FTy.f32
    (BitVec.setWidth 32 (IntOp.cmpi CmpIPredicate.eq w (BitVec.ofNat 32 x.val))) * f x

/-- The body's block at row `r` and image `b`: it reads row `r` of the shells and column `r` of the weights only. -/
theorem outBlk_apply (i : grid0.Coords) (X1 : S3x64.Idx → Elt Ideal .f32) (X2 : S34x1.Idx → Elt Ideal .f32)
    (X3 : S16384x1.Idx → Elt Ideal .i32) (X4 : S64x128.Idx → Elt Ideal .f32) (X5 : S128x16384.Idx → Elt Ideal .f32)
    (r : Fin 16384) (b : Fin 64) :
    outBlk i X1 X2 X3 X4 X5 (ix2 r b)
      = if k0_cond1 i = 1#1 ∧ r.val = 8321 then 0
        else if k0_cond1 i = 1#1 ∧ r.val = 8320 then
          X1 (ix2 0 b) * scaleOf (X1 (ix2 1 b)) (X1 (ix2 2 b)) (X2 (ix2 0 0)) 0#32
        else (∑ k : Fin 128, X5 (ix2 k r) * X4 (ix2 b k)) * pick (X3 (ix2 r 0)) fun x =>
          scaleOf (X1 (ix2 1 b)) (X1 (ix2 2 b)) (X2 (ix2 x 0)) (BitVec.ofNat 32 x.val) := by
  have h0 := ppRow_apply ![0, 0] inb_S3x64_S1x64_0_0 X1 0 rfl rfl b
  have h1 := ppRow_apply ![1, 0] inb_S3x64_S1x64_1_0 X1 1 rfl rfl b
  have h2 := ppRow_apply ![2, 0] inb_S3x64_S1x64_2_0 X1 2 rfl rfl b
  have e2 := ld_whole (e := .f32) X2 inb_S34x1_S34x1_0_0
  have e3 := ld_whole (e := .i32) X3 inb_S16384x1_S16384x1_0_0
  have e4 := ld_whole (e := .f32) X4 inb_S64x128_S64x128_0_0
  have e5 := ld_whole (e := .f32) X5 inb_S128x16384_S128x16384_0_0
  have hp : plainBlk X1 X2 X3 X4 X5 (ix2 r b)
      = (∑ k : Fin 128, X5 (ix2 k r) * X4 (ix2 b k)) * pick (X3 (ix2 r 0)) fun x =>
          scaleOf (X1 (ix2 1 b)) (X1 (ix2 2 b)) (X2 (ix2 x 0)) (BitVec.ofNat 32 x.val) := by
    unfold plainBlk pick
    rw [pay3_apply]
    simp only [pay2_apply]
    rw [h1, h2, e2, e3, e4, e5]
  have hs : scaleTab X1 X2 (ix2 0 b) = scaleOf (X1 (ix2 1 b)) (X1 (ix2 2 b)) (X2 (ix2 0 0)) 0#32 := by
    unfold scaleTab
    rw [pay2_apply, h1, h2, e2]
    rfl
  unfold outBlk
  by_cases hc : k0_cond1 i = 1#1
  · rw [if_pos hc, pay1_apply, h0, hs, hp]
    simp only [hc, true_and]
  · rw [if_neg hc, hp]
    simp only [hc, false_and, if_false]

end Cert.Proof.IdealRun
-- ==== Proof.IdealFrame.lean ====
/-
  The idealised kernel runs over the extended reals: every execution terminates with each array at what the blocks
  written back to it make of it, and the arguments as they were. A block that overhangs the array is stated on its rows
  inside only: an entry of the result reads nothing past the end.
-/
module

public import proofs.«01_k».proof.Proof.IdealBlock

@[expose] public section

noncomputable section

namespace Cert.Proof.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The shell block at point `t`, filled out to the whole buffer. -/
def shellBlk (d : S16384x1.Idx → Elt Ideal .i32) (c : Dev nD) (t : Fin cfg0.N) : S16384x1.Idx → Elt Ideal .i32 :=
  win0_2.fill (grid0.coords t) d (iblk m c 2 t)

/-- The weight block at point `t`, filled out to the whole buffer. -/
def weightBlk (d : S128x16384.Idx → Elt Ideal .f32) (c : Dev nD) (t : Fin cfg0.N) : S128x16384.Idx → Elt Ideal .f32 :=
  win0_4.fill (grid0.coords t) d (iblk m c 4 t)

/-- The proof data: the arrays as the host lines leave them, the inputs' buffers at their blocks, and the result's
    at the block the body computes of them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => shellBlk m (fun _ => 0#32) c t
    | ⟨3, _⟩ => iblk m c 3 t
    | ⟨4, _⟩ => weightBlk m (fun _ => (0 : EReal)) c t
    | ⟨5, _⟩ => outBlk (grid0.coords t) (iblk m c 0 t) (iblk m c 1 t) (shellBlk m (fun _ => 0#32) c t) (iblk m c 3 t)
        (weightBlk m (fun _ => (0 : EReal)) c t)
  Φ _ := Pipeline.ΦA spec0 c
  q _ := fullShare
  owed _ := 0

/-- What window 0 holds when a step begins. -/
theorem before_0 (c : Dev nD) (t : Fin cfg0.N) (d) : (dats m 0 c).before (0 : Fin 6) t d = iblk m c 0 t :=
  before0_0_of m (dats m 0 c) rfl (fun _ => rfl) t d
/-- What window 1 holds when a step begins. -/
theorem before_1 (c : Dev nD) (t : Fin cfg0.N) (d) : (dats m 0 c).before (1 : Fin 6) t d = iblk m c 1 t :=
  before0_1_of m (dats m 0 c) rfl (fun _ => rfl) t d
/-- What window 2 holds when a step begins. -/
theorem before_2 (c : Dev nD) (t : Fin cfg0.N) (d) : (dats m 0 c).before (2 : Fin 6) t d = shellBlk m d c t := by
  unfold Dat.before; rw [if_pos (fetch0_2 t)]; rfl
/-- What window 3 holds when a step begins. -/
theorem before_3 (c : Dev nD) (t : Fin cfg0.N) (d) : (dats m 0 c).before (3 : Fin 6) t d = iblk m c 3 t :=
  before0_3_of m (dats m 0 c) rfl (fun _ => rfl) t d
/-- What window 4 holds when a step begins. -/
theorem before_4 (c : Dev nD) (t : Fin cfg0.N) (d) : (dats m 0 c).before (4 : Fin 6) t d = weightBlk m d c t := by
  unfold Dat.before; rw [if_pos (fetch0_4 t)]; rfl

/-- The shell buffer at a row inside the array does not depend on what fills it out. -/
theorem shellBlk_xinj (d : S16384x1.Idx → Elt Ideal .i32) (c : Dev nD) (t : Fin cfg0.N) (j : (win0_2.xblock (grid0.coords t)).Idx) :
    shellBlk m d c t (win0_2.xinj (grid0.coords t) j) = iblk m c 2 t j := win0_2.fill_xinj _ _ _ _

/-- The weight buffer at a column inside the array does not depend on what fills it out. -/
theorem weightBlk_xinj (d : S128x16384.Idx → Elt Ideal .f32) (c : Dev nD) (t : Fin cfg0.N) (j : (win0_4.xblock (grid0.coords t)).Idx) :
    weightBlk m d c t (win0_4.xinj (grid0.coords t) j) = iblk m c 4 t j := win0_4.fill_xinj _ _ _ _

/-- A row of the result inside the array, as a row of the shell block inside its array. -/
def shellIdx (t : Fin cfg0.N) (j : (win0_5.xblock (grid0.coords t)).Idx) : (win0_2.xblock (grid0.coords t)).Idx := fun
  | ⟨0, _⟩ => ⟨(j 0).val, (j 0).isLt⟩
  | ⟨1, _⟩ => ⟨0, Nat.one_pos⟩

/-- A row of the result inside the array, as a column of the weight block inside its array. -/
def weightIdx (t : Fin cfg0.N) (j : (win0_5.xblock (grid0.coords t)).Idx) (k : Fin 128) : (win0_4.xblock (grid0.coords t)).Idx := fun
  | ⟨0, _⟩ => ⟨k.val, k.isLt⟩
  | ⟨1, _⟩ => ⟨(j 0).val, (j 0).isLt⟩

/-- The row of a block an index of its part inside the array names, -/
def rowOf (t : Fin cfg0.N) (j : (win0_5.xblock (grid0.coords t)).Idx) : Fin 16384 :=
  ⟨(j 0).val, Nat.lt_of_lt_of_le (j 0).isLt (win0_5.xsize_le (grid0.coords t) 0)⟩
/-- and the image. -/
def imgOf (t : Fin cfg0.N) (j : (win0_5.xblock (grid0.coords t)).Idx) : Fin 64 := ⟨(j 1).val, (j 1).isLt⟩

/-- The parameters' block at point `t`: all of them. -/
def ppBlk (c : Dev nD) (t : Fin cfg0.N) : S3x64.Idx → EReal := iblk m c 0 t
/-- The spectral factors' block at point `t`: all of them. -/
def sfBlk (c : Dev nD) (t : Fin cfg0.N) : S34x1.Idx → EReal := iblk m c 1 t
/-- The latent inputs' block at point `t`: all of them. -/
def sbBlk (c : Dev nD) (t : Fin cfg0.N) : S64x128.Idx → EReal := iblk m c 3 t
/-- The shell of a row inside the array. -/
def shellAt (c : Dev nD) (t : Fin cfg0.N) (j : (win0_5.xblock (grid0.coords t)).Idx) : BitVec 32 := iblk m c 2 t (shellIdx t j)
/-- The `k`-th weight of a row inside the array. -/
def weightAt (c : Dev nD) (t : Fin cfg0.N) (j : (win0_5.xblock (grid0.coords t)).Idx) (k : Fin 128) : EReal :=
  iblk m c 4 t (weightIdx t j k)

/-- The part of the body's block inside the array, entry by entry, whatever fills the two overhanging inputs out. -/
theorem outBlk_xinj (d2 : S16384x1.Idx → Elt Ideal .i32) (d4 : S128x16384.Idx → Elt Ideal .f32) (c : Dev nD) (t : Fin cfg0.N)
    (j : (win0_5.xblock (grid0.coords t)).Idx) :
    outBlk (grid0.coords t) (iblk m c 0 t) (iblk m c 1 t) (shellBlk m d2 c t) (iblk m c 3 t) (weightBlk m d4 c t)
        (win0_5.xinj (grid0.coords t) j)
      = if k0_cond1 (grid0.coords t) = 1#1 ∧ (rowOf t j).val = 8321 then (0 : EReal)
        else if k0_cond1 (grid0.coords t) = 1#1 ∧ (rowOf t j).val = 8320 then
          ppBlk m c t (ix2 0 (imgOf t j)) * scaleOf (ppBlk m c t (ix2 1 (imgOf t j))) (ppBlk m c t (ix2 2 (imgOf t j))) (sfBlk m c t (ix2 0 0)) 0#32
        else (∑ k : Fin 128, weightAt m c t j k * sbBlk m c t (ix2 (imgOf t j) k)) * pick (shellAt m c t j) fun x =>
          scaleOf (ppBlk m c t (ix2 1 (imgOf t j))) (ppBlk m c t (ix2 2 (imgOf t j))) (sfBlk m c t (ix2 x 0)) (BitVec.ofNat 32 x.val) := by
  have e : win0_5.xinj (grid0.coords t) j = ix2 (rowOf t j) (imgOf t j) := by
    funext a; match a with | ⟨0, _⟩ => rfl | ⟨1, _⟩ => rfl
  have e2 : shellBlk m d2 c t (ix2 (rowOf t j) 0) = shellAt m c t j := by
    unfold shellAt
    rw [← shellBlk_xinj m d2 c t (shellIdx t j)]
    refine congrArg _ (funext fun a => ?_); match a with | ⟨0, _⟩ => rfl | ⟨1, _⟩ => rfl
  have e4 (k : Fin 128) : weightBlk m d4 c t (ix2 k (rowOf t j)) = weightAt m c t j k := by
    unfold weightAt
    rw [← weightBlk_xinj m d4 c t (weightIdx t j k)]
    refine congrArg _ (funext fun a => ?_); match a with | ⟨0, _⟩ => rfl | ⟨1, _⟩ => rfl
  rw [e]
  refine (outBlk_apply (grid0.coords t) (ppBlk m c t) (sfBlk m c t) (shellBlk m d2 c t) (sbBlk m c t) (weightBlk m d4 c t)
    (rowOf t j) (imgOf t j)).trans ?_
  rw [e2]
  simp only [e4]

/-- At every point one of the body's branches stores the result. -/
theorem idle_5 (i : grid0.Coords) : idle0 5 i = false := by
  show (!(k0_cond1 i == 1#1) && !(k0_cond2 i == 1#1)) = false
  by_cases h : k0_cond1 i = 1#1
  · rw [h]; rfl
  · rw [(cond2_iff i).mpr h]; simp

/-- The library's body obligation, the result's buffer stated on the rows inside the array. -/
theorem body_obligation (c : Dev nD) :
    BodyObligationLoose (dats m 0 c) (defs₀ (F := Ideal)) 𝒱₀ () Set.univ := fun t => by
  rw [bigSep_W0, bigSep_W0]
  have hi : cfg0.idle 5 (cfg0.grid.coords t) = false := idle_5 _
  rw [hi]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4]
  iapply (body_run (F := Ideal) c Set.univ (grid0.coords t) _ _ _ _ _ _ _ _ _ _ _ _
    (iblk m c 0 t) (iblk m c 1 t) (shellBlk m d2 c t) (iblk m c 3 t) (weightBlk m d4 c t) ((dats m 0 c).before (5 : Fin 6) t d5) _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  have h2 : win0_2.cut (grid0.coords t) (shellBlk m (fun _ => 0#32) c t) = iblk m c 2 t := win0_2.cut_fill _ _ _
  have h4 : win0_4.cut (grid0.coords t) (weightBlk m (fun _ => (0 : EReal)) c t) = iblk m c 4 t :=
    win0_4.cut_fill _ _ _
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (shellBlk m (fun _ => 0#32) c t)))
    rw [h2]; exact .rfl
  isplitl [H3]; · iexact H3
  isplitl [H4]
  · iexists d4
    change _ ⊢ owns (c : Thread nD τ) (st0_4 t) fullShare (win0_4.fill (grid0.coords t) d4 (win0_4.cut (grid0.coords t) (weightBlk m (fun _ => (0 : EReal)) c t)))
    rw [h4]; exact .rfl
  have h5 : win0_5.cut (grid0.coords t) (outBlk (grid0.coords t) (iblk m c 0 t) (iblk m c 1 t) (shellBlk m d2 c t) (iblk m c 3 t) (weightBlk m d4 c t))
      = win0_5.cut (grid0.coords t) (outBlk (grid0.coords t) (iblk m c 0 t) (iblk m c 1 t) (shellBlk m (fun _ => 0#32) c t) (iblk m c 3 t)
        (weightBlk m (fun _ => (0 : EReal)) c t)) :=
    funext fun j => (outBlk_xinj m d2 d4 c t j).trans (outBlk_xinj m _ _ c t j).symm
  iexists outBlk (grid0.coords t) (iblk m c 0 t) (iblk m c 1 t) (shellBlk m d2 c t) (iblk m c 3 t) (weightBlk m d4 c t)
  change _ ⊢ owns (c : Thread nD τ) (st0_5 t) fullShare (win0_5.fill (grid0.coords t) (outBlk (grid0.coords t) (iblk m c 0 t) (iblk m c 1 t) (shellBlk m d2 c t) (iblk m c 3 t) (weightBlk m d4 c t))
    (win0_5.cut (grid0.coords t) (outBlk (grid0.coords t) (iblk m c 0 t) (iblk m c 1 t) (shellBlk m (fun _ => 0#32) c t) (iblk m c 3 t)
        (weightBlk m (fun _ => (0 : EReal)) c t))))
  rw [win0_5.fill_congr_cut _ h5]

set_option backward.isDefEq.respectTransparency.types false in
/-- The run: every execution terminates with the arrays at what the write-backs make of them, the host lines after the
    kernel applied to those, and every counter at zero. -/
theorem main_run : θ_run (defs (F := Ideal)) (onTc (τ := τ) (main (F := Ideal))) ⟨m, fun _ => 0, ρ⟩ (fun r =>
      Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)
    (Q' := _) (hQ' := fun _ h => h)

/-- The frame: every execution terminates with the four arguments as they were and every counter at zero. -/
theorem frame_run : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hz⟩ => ⟨fun c =>
    ⟨((h c).1 3).trans (((dats m 0 c).arrAt_in 3 rfl _).trans (V_main_arg0 m c)),
      ((h c).2 main_arg1 (Pipeline.mem_restRefs_of main_arg1 (by decide) (by decide))).trans (W_main_arg1 m (dats m) c),
      ((h c).1 4).trans (((dats m 0 c).arrAt_in 4 rfl _).trans (V_main_arg2 m c)),
      ((h c).2 main_arg3 (Pipeline.mem_restRefs_of main_arg3 (by decide) (by decide))).trans (W_main_arg3 m (dats m) c)⟩, hz⟩) (main_run m ρ)

end Cert.Proof.IdealRun
-- ==== Proof.IdealHost.lean ====
/-
  The three arrays the host lines prepare before the kernel, and the array the host lines after it make of the
  kernel's: each entry by entry.
-/
module

public import proofs.«01_k».proof.Proof.IdealFrame

@[expose] public section

noncomputable section

namespace Cert.Proof.IdealRun

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ)

/-- The column of shells is the printed table, each entry twice. -/
theorem shells_apply (c : Dev nD) (n : Fin 278850) :
    (V m c main_call0_v2 : S278850x1.Idx → BitVec 32) (ix2 n 0) = lit0t (n.val / 2) := by
  have h : (V m c main_call0_v2 : S278850x1.Idx → BitVec 32)
      = shapeCast S278850x1 (shapeCast S278850 (broadcastInDim S139425x2 ![0] bcast_S139425_S139425x2_0
          fun i => lit0 (S139425.rowMajor i)) shapeCasts_S139425x2_S278850) shapeCasts_S278850_S278850x1 := by
    simp only [V, V0, hostOps0, List.flatten_cons, List.flatten_nil, List.append_nil, TRef.binary, TRef.nullary, TRef.ternary, TRef.unary, TRef.reshape, TRef.toBuf, TRef.ofBuf, cast_eq]
    after_results_simp <;> rfl
  have hr (k : Fin 139425) : S139425.rowMajor (ix1 k) = k := Fin.ext (Shape.rowMajor_val_one (d := ![139425]) (ix1 k))
  rw [h]
  pointwise
  rw [hr]

/-- The column of spectral factors is the argument's, ending in a zero. -/
theorem factors_apply (c : Dev nD) (x : Fin 34) :
    (V m c main_call0_v5 : S34x1.Idx → EReal) (ix2 x 0)
      = if h : x.val < 33 then (m ((c : Thread nD τ).loc main_arg3) : S33.Idx → EReal) (ix1 ⟨x.val, h⟩) else (0 : EReal) := by
  have h : (V m c main_call0_v5 : S34x1.Idx → EReal)
      = shapeCast S34x1 (concatenate S34 0 [⟨S33, m ((c : Thread nD τ).loc main_arg3)⟩,
          ⟨S1, broadcastInDim S1 ![] bcast_S_S1 (constant (F := Ideal) S_ .f32 0x00000000#32)⟩] concatenates_S33_S1_S34_d0) shapeCasts_S34_S34x1 := by
    simp only [V, V0, hostOps0, List.flatten_cons, List.flatten_nil, List.append_nil, TRef.binary, TRef.nullary, TRef.ternary, TRef.unary, TRef.reshape, TRef.toBuf, TRef.ofBuf, cast_eq]
    after_results_simp <;> rfl
  rw [h]
  pointwise

/-- The parameters, one row each. -/
theorem params_apply (c : Dev nD) (r : Fin 3) (b : Fin 64) :
    (V m c main_call0_v6 : S3x64.Idx → EReal) (ix2 r b) = (m ((c : Thread nD τ).loc main_arg1) : S64x3.Idx → EReal) (ix2 b r) := by
  have h : (V m c main_call0_v6 : S3x64.Idx → EReal)
      = transpose S3x64 [1, 0] (m ((c : Thread nD τ).loc main_arg1)) transposes_S64x3_S3x64_1_0 := by
    simp only [V, V0, hostOps0, List.flatten_cons, List.flatten_nil, List.append_nil, TRef.binary, TRef.nullary, TRef.ternary, TRef.unary, TRef.reshape, TRef.toBuf, TRef.ofBuf, cast_eq]
    after_results_simp <;> rfl
  rw [h]
  pointwise

/-- The column of the flat result an entry of the volume lies in. -/
def colOf (z y : Fin 65) (x : Fin 33) (p : Fin 2) : Fin 278850 :=
  ⟨((z.val * 65 + y.val) * 33 + x.val) * 2 + p.val, by omega⟩

/-- The windows stage distinct arrays. -/
theorem arr_injective : Function.Injective (Pipeline.arrRef spec0) := by decide

/-- The program's result, entry by entry, from the kernel's. -/
theorem result_apply (c : Dev nD) (b : Fin 64) (z y : Fin 65) (x : Fin 33) (p : Fin 2) :
    (Pipeline.afterTail₀ cfgs (dats m) 0 (V0 m) [hostOps1] c main_v0 : S64x65x65x33x2.Idx → EReal) (ix5 b z y x p)
      = ((dats m 0 c).arrAt 5 cfg0.N : S278850x64.Idx → EReal) (ix2 (colOf z y x p) b) := by
  have h : (Pipeline.afterTail₀ cfgs (dats m) 0 (V0 m) [hostOps1] c main_v0 : S64x65x65x33x2.Idx → EReal)
      = shapeCast S64x65x65x33x2 (transpose S64x278850 [1, 0] ((dats m 0 c).arrAt 5 cfg0.N : S278850x64.Idx → EReal)
          transposes_S278850x64_S64x278850_1_0) shapeCasts_S64x278850_S64x65x65x33x2 := by
    unfold Pipeline.afterTail₀
    simp only [hostOps1, List.flatten_cons, List.flatten_nil, List.append_nil, TRef.binary, TRef.nullary, TRef.ternary, TRef.unary, TRef.reshape, TRef.toBuf, TRef.ofBuf, cast_eq]
    after_results_simp
    rw [show Pipeline.withArrays (cfgs 0).spec c (V0 m c) (fun w => (dats m 0 c).arrAt w (cfgs 0).N) (Proc.tc.devRef main_call0_v7)
      = (dats m 0 c).arrAt 5 cfg0.N from Pipeline.withArrays_arr spec0 arr_injective c (V0 m c) (fun w => (dats m 0 c).arrAt w (cfgs 0).N) 5]
    rfl
  rw [h]
  pointwise
  refine congrArg _ (congrArg (fun n : Fin 278850 => ix2 n b) (Fin.ext ?_))
  show z.val * 4290 + y.val * 66 + x.val * 2 + p.val = ((z.val * 65 + y.val) * 33 + x.val) * 2 + p.val
  omega

end Cert.Proof.IdealRun
-- ==== Proof.IdealArray.lean ====
/-
  What the kernel's result array holds when the run ends: the blocks written back, put together and read entry by entry
  from the launched arguments.
-/
module

public import proofs.«01_k».proof.Proof.IdealHost
public import Idealize.ShloMosaic.Lib.Pipeline.ValueKit

@[expose] public section

noncomputable section

namespace Cert.Proof.IdealRun

open Cert.KernelIdeal Cert.KernelIdeal.Gen
open Idealize.ShloMosaic Idealize.ShloMosaic.TcCoe Idealize.ShloMosaic.Tactic

variable (m : (ℓ : Loc nD τ sig) → Buf (Elt Ideal) ℓ)

/-- The latent inputs as launched. -/
def sbArg (c : Dev nD) : S64x128.Idx → EReal := m ((c : Thread nD τ).loc main_arg0)
/-- The parameters as launched. -/
def ppArg (c : Dev nD) : S64x3.Idx → EReal := m ((c : Thread nD τ).loc main_arg1)
/-- The weights as launched. -/
def wArg (c : Dev nD) : S128x278850.Idx → EReal := m ((c : Thread nD τ).loc main_arg2)
/-- The spectral factors as launched. -/
def sfArg (c : Dev nD) : S33.Idx → EReal := m ((c : Thread nD τ).loc main_arg3)

/-- The spectral factors ending in a zero. -/
def sfExt (c : Dev nD) (x : Fin 34) : EReal := if h : x.val < 33 then sfArg m c (ix1 ⟨x.val, h⟩) else 0

/-- The result array: at column `n` and image `b` the weighted sum times the scale of the column's shell, but the zero
    frequency's two columns, 139392 and 139393. -/
def outArr (c : Dev nD) (n : Fin 278850) (b : Fin 64) : EReal :=
  if n.val = 139393 then 0
  else if n.val = 139392 then
    ppArg m c (ix2 b 0) * scaleOf (ppArg m c (ix2 b 1)) (ppArg m c (ix2 b 2)) (sfExt m c 0) 0#32
  else (∑ k : Fin 128, wArg m c (ix2 k n) * sbArg m c (ix2 b k)) * pick (lit0t (n.val / 2)) fun x =>
    scaleOf (ppArg m c (ix2 b 1)) (ppArg m c (ix2 b 2)) (sfExt m c x) (BitVec.ofNat 32 x.val)

/-- The block of window 0 at each step. -/
theorem index_0 : ∀ t : Fin cfg0.N, win0_0.index t = ![0, 0] := (by decide +kernel : ∀ t : Fin grid0.N, _)
/-- The block of window 1 at each step. -/
theorem index_1 : ∀ t : Fin cfg0.N, win0_1.index t = ![0, 0] := (by decide +kernel : ∀ t : Fin grid0.N, _)
/-- The block of window 2 at each step. -/
theorem index_2 : ∀ t : Fin cfg0.N, win0_2.index t = ![t.val, 0] := (by decide +kernel : ∀ t : Fin grid0.N, _)
/-- The block of window 3 at each step. -/
theorem index_3 : ∀ t : Fin cfg0.N, win0_3.index t = ![0, 0] := (by decide +kernel : ∀ t : Fin grid0.N, _)
/-- The block of window 4 at each step. -/
theorem index_4 : ∀ t : Fin cfg0.N, win0_4.index t = ![0, t.val] := (by decide +kernel : ∀ t : Fin grid0.N, _)
/-- The block of window 5 at each step. -/
theorem index_5 : ∀ t : Fin cfg0.N, win0_5.index t = ![t.val, 0] := (by decide +kernel : ∀ t : Fin grid0.N, _)

/-- The zero frequency's tile is the eighth. -/
theorem cond1_iff : ∀ t : Fin cfg0.N, k0_cond1 (grid0.coords t) = 1#1 ↔ t.val = 8 := (by decide +kernel : ∀ t : Fin grid0.N, _)

/-- A block's rows inside the array end at the array's end. -/
theorem xsize_5 : ∀ t : Fin cfg0.N, t.val * 16384 + win0_5.xsize (grid0.coords t) 0 ≤ 278850 := (by decide +kernel : ∀ t : Fin grid0.N, _)

/-- The column of the array a row of a block is. -/
def colAt (t : Fin cfg0.N) (j : (win0_5.xblock (grid0.coords t)).Idx) : Fin 278850 :=
  ⟨t.val * 16384 + (rowOf t j).val, Nat.lt_of_lt_of_le (Nat.add_lt_add_left (j 0).isLt _) (xsize_5 t)⟩

/-- The scale factors in the block: the argument, then a zero. -/
theorem sfBlk_apply (c : Dev nD) (t : Fin cfg0.N) (x : Fin 34) : sfBlk m c t (ix2 x 0) = sfExt m c x := by
  refine Eq.trans ?_ (factors_apply m c x)
  show V m c main_call0_v5 ((win0_1.blk t).view.emb (ix2 x 0)) = V m c main_call0_v5 (ix2 x 0)
  blk_ext [index_1]

/-- The postprocessing parameters in the block: the argument transposed. -/
theorem ppBlk_apply (c : Dev nD) (t : Fin cfg0.N) (r : Fin 3) (b : Fin 64) : ppBlk m c t (ix2 r b) = ppArg m c (ix2 b r) := by
  refine Eq.trans ?_ (params_apply m c r b)
  show V m c main_call0_v6 ((win0_0.blk t).view.emb (ix2 r b)) = V m c main_call0_v6 (ix2 r b)
  congr 1
  blk_ext [index_0]

/-- The structure coefficients in the block: the argument. -/
theorem sbBlk_apply (c : Dev nD) (t : Fin cfg0.N) (b : Fin 64) (k : Fin 128) : sbBlk m c t (ix2 b k) = sbArg m c (ix2 b k) := by
  refine Eq.trans ?_ (congrFun (V_main_arg0 m c) (ix2 b k))
  show V m c main_arg0 ((win0_3.blk t).view.emb (ix2 b k)) = V m c main_arg0 (ix2 b k)
  congr 1
  blk_ext [index_3]

/-- A row of the shell block inside the array is the table's entry at that column. -/
theorem shellAt_eq (c : Dev nD) (t : Fin cfg0.N) (j : (win0_5.xblock (grid0.coords t)).Idx) :
    shellAt m c t j = lit0t ((colAt t j).val / 2) := by
  refine Eq.trans ?_ (shells_apply m c (colAt t j))
  show V m c main_call0_v2 ((win0_2.blk t).view.emb (shellIdx t j)) = V m c main_call0_v2 (ix2 (colAt t j) 0)
  congr 1
  blk_ext [index_2]
  rfl

/-- A column of the weight block inside the array is the argument's. -/
theorem weightAt_eq (c : Dev nD) (t : Fin cfg0.N) (j : (win0_5.xblock (grid0.coords t)).Idx) (k : Fin 128) :
    weightAt m c t j k = wArg m c (ix2 k (colAt t j)) := by
  refine Eq.trans ?_ (congrFun (V_main_arg2 m c) (ix2 k (colAt t j)))
  show V m c main_arg2 ((win0_4.blk t).view.emb (weightIdx t j k)) = V m c main_arg2 (ix2 k (colAt t j))
  congr 1
  blk_ext [index_4]
  · rfl
  · rfl

/-- The array after the run. -/
theorem final_out (c : Dev nD) : (dats m 0 c).arrAt 5 cfg0.N = fun i : S278850x64.Idx => outArr m c (i 0) (i 1) := by
  refine (dats m 0 c).arrAt_eq_of_covers 5 _ (by decide +kernel) fun t hf y => ?_
  refine (outBlk_xinj m (fun _ => 0#32) (fun _ => (0 : EReal)) c t y).trans ?_
  have e0 : (((win0_5.blk t).view.emb y 0 : Fin 278850)) = colAt t y := by
    apply Fin.ext
    blk_simp [index_5]
    rfl
  have e1 : (((win0_5.blk t).view.emb y 1 : Fin 64)) = imgOf t y := by
    apply Fin.ext
    blk_simp [index_5]
    rfl
  show _ = outArr m c ((win0_5.blk t).view.emb y 0) ((win0_5.blk t).view.emb y 1)
  rw [e0, e1]
  unfold outArr
  have hr := (rowOf t y).isLt
  have hn : (colAt t y).val = t.val * 16384 + (rowOf t y).val := rfl
  have h1 : (k0_cond1 (grid0.coords t) = 1#1 ∧ (rowOf t y).val = 8321) ↔ (colAt t y).val = 139393 := by
    rw [cond1_iff, hn]; omega
  have h2 : (k0_cond1 (grid0.coords t) = 1#1 ∧ (rowOf t y).val = 8320) ↔ (colAt t y).val = 139392 := by
    rw [cond1_iff, hn]; omega
  simp only [h1, h2, ppBlk_apply, sfBlk_apply, sbBlk_apply, shellAt_eq, weightAt_eq]

end Cert.Proof.IdealRun
-- ==== Proof.Words.lean ====
/-
  The reference's shell of a voxel: the integer arithmetic of its coordinates, the root and the rounding, as numbers.
-/
module

public import Idealize.ShloMosaic.Lib.Pointwise

@[expose] public section

noncomputable section

namespace Cert.Proof

open Idealize.ShloMosaic

/-- The squared distance of voxel `(z, y, x)` from the zero frequency `(32, 32, 0)`. -/
def distSq (z y x : Nat) : Nat := (z * z + 1024 - 64 * z) + (y * y + 1024 - 64 * y) + x * x

/-- The word of a coordinate's square after the shift by 32. -/
theorem shiftSq_word : ∀ z : Fin 65, IntOp.muli (IntOp.subi (BitVec.ofNat 32 z.val) 32#32) (IntOp.subi (BitVec.ofNat 32 z.val) 32#32)
    = BitVec.ofNat 32 (z.val * z.val + 1024 - 64 * z.val) := by decide

/-- The word of a coordinate's square. -/
theorem sq_word : ∀ x : Fin 33, IntOp.muli (BitVec.ofNat 32 x.val) (BitVec.ofNat 32 x.val) = BitVec.ofNat 32 (x.val * x.val) := by
  decide

/-- A shifted coordinate's square is at most 1024. -/
theorem shiftSq_le : ∀ z : Fin 65, z.val * z.val + 1024 - 64 * z.val ≤ 1024 := by decide

/-- A coordinate's square is at most 1024. -/
theorem sq_le : ∀ x : Fin 33, x.val * x.val ≤ 1024 := by decide

/-- The word the reference computes of a voxel's coordinates. -/
def distWord (z y : Fin 65) (x : Fin 33) : BitVec 32 :=
  IntOp.addi
    (IntOp.addi (IntOp.muli (IntOp.subi (BitVec.ofNat 32 z.val) 32#32) (IntOp.subi (BitVec.ofNat 32 z.val) 32#32))
      (IntOp.muli (IntOp.subi (BitVec.ofNat 32 y.val) 32#32) (IntOp.subi (BitVec.ofNat 32 y.val) 32#32)))
    (IntOp.muli (BitVec.ofNat 32 x.val) (BitVec.ofNat 32 x.val))

/-- The squared distance is at most 3072. -/
theorem distSq_le (z y : Fin 65) (x : Fin 33) : distSq z y x ≤ 3072 := by
  have := shiftSq_le z; have := shiftSq_le y; have := sq_le x
  unfold distSq; omega

/-- It is the squared distance's word. -/
theorem distWord_eq (z y : Fin 65) (x : Fin 33) : distWord z y x = BitVec.ofNat 32 (distSq z y x) := by
  unfold distWord distSq
  rw [shiftSq_word, shiftSq_word, sq_word]
  simp only [IntOp.addi, ← BitVec.ofNat_add]

/-- A number below 2^31 as a word, read back as a signed integer, is the number. -/
theorem toInt_ofNat_small {n : Nat} (h : n < 2147483648) : (BitVec.ofNat 32 n).toInt = (n : ℤ) := by
  have h1 : (BitVec.ofNat 32 n).toNat = n := by rw [BitVec.toNat_ofNat]; omega
  rw [BitVec.toInt_eq_toNat_of_lt (by rw [h1]; omega), h1]

/-- A small natural number's word, read as a signed integer, is that number. -/
theorem sitofp_ofNat {n : Nat} (h : n < 2147483648) :
    FloatOps.sitofp (F := Ideal) FTy.f32 (BitVec.ofNat 32 n) = (((n : ℝ)) : EReal) := by
  show (((BitVec.ofNat 32 n).toInt : ℝ) : EReal) = _
  rw [toInt_ofNat_small h]; norm_num

/-- The reference's radius of a voxel. -/
theorem radius_eq (z y : Fin 65) (x : Fin 33) :
    Ideal.sqrt (FloatOps.sitofp (F := Ideal) FTy.f32 (distWord z y x)) = ((Real.sqrt (distSq z y x : ℝ) : ℝ) : EReal) := by
  have h := distSq_le z y x
  rw [distWord_eq, sitofp_ofNat (by omega), Ideal.sqrt_coe, if_neg (not_lt.mpr (Nat.cast_nonneg _))]

/-- The sphere's bound. -/
theorem ofBits_32 : Ideal.ofBits FTy.f32 1107296256#32 = ((32 : ℝ) : EReal) := by
  simp [Ideal.ofBits, Ideal.ieee]
  rw [← EReal.coe_mul]
  norm_num

/-- A voxel is in the sphere exactly where its squared distance is at most 1024. -/
theorem inSphere_iff (z y : Fin 65) (x : Fin 33) :
    Ideal.sqrt (FloatOps.sitofp (F := Ideal) FTy.f32 (distWord z y x)) ≤ Ideal.ofBits FTy.f32 1107296256#32 ↔ distSq z y x ≤ 1024 := by
  rw [radius_eq, ofBits_32, EReal.coe_le_coe_iff, Real.sqrt_le_left (by norm_num)]
  constructor
  · intro h
    have h' : (distSq z y x : ℝ) ≤ ((1024 : ℕ) : ℝ) := by push_cast; linarith
    exact_mod_cast h'
  · intro h
    have h' : (distSq z y x : ℝ) ≤ ((1024 : ℕ) : ℝ) := by exact_mod_cast h
    push_cast at h'; linarith

/-- A real within a half of an integer rounds to it. -/
theorem roundHalfEven_of_near {r : ℝ} {k : ℤ} (h1 : (k : ℝ) - 1 / 2 < r) (h2 : r < (k : ℝ) + 1 / 2) :
    Ideal.roundHalfEven r = k := by
  unfold Ideal.roundHalfEven
  by_cases hk : (k : ℝ) ≤ r
  · have hf : ⌊r⌋ = k := Int.floor_eq_iff.mpr ⟨hk, by linarith⟩
    rw [hf]; simp only
    rw [if_pos (by linarith)]
  · have hf : ⌊r⌋ = k - 1 := Int.floor_eq_iff.mpr ⟨by push_cast; linarith, by push_cast; linarith⟩
    rw [hf]; simp only
    rw [if_neg (by push_cast; linarith), if_pos (by push_cast; linarith)]
    ring

/-- The rounded root of a number between the squares of `k`'s half-integer neighbours is `k`. -/
theorem round_sqrt {d k : Nat} (h1 : d ≤ k * k + k) (h2 : k * k ≤ d + k - 1) :
    Ideal.roundHalfEven (Real.sqrt (d : ℝ)) = (k : ℤ) := by
  have hd : (0 : ℝ) ≤ d := Nat.cast_nonneg _
  have hs := Real.sqrt_nonneg (d : ℝ)
  have hq := Real.mul_self_sqrt hd
  have hk : (0 : ℝ) ≤ k := Nat.cast_nonneg _
  have e1 : (d : ℝ) ≤ k * k + k := by exact_mod_cast h1
  refine roundHalfEven_of_near ?_ ?_
  · by_cases hk0 : k = 0
    · subst hk0; push_cast; linarith
    · have h2' : k * k + 1 ≤ d + k := by omega
      have e2 : (k : ℝ) * k + 1 ≤ d + k := by exact_mod_cast h2'
      push_cast
      by_contra hc
      have hc := not_lt.mp hc
      nlinarith
  · push_cast
    by_contra hc
    have hc := not_lt.mp hc
    nlinarith

/-- A small number converts to its word. -/
theorem fptosi_ofNat {k : Nat} (h : k < 2147483648) :
    FloatOps.fptosi (F := Ideal) (φ := FTy.f32) 32 (((k : ℤ) : ℝ) : EReal) = BitVec.ofNat 32 k := by
  show BitVec.ofInt 32 (max _ (min _ (if (0 : ℝ) ≤ ((k : ℤ) : ℝ) then ⌊((k : ℤ) : ℝ)⌋ else ⌈((k : ℤ) : ℝ)⌉))) = _
  rw [if_pos (by positivity), Int.floor_intCast]
  rw [min_eq_right (by norm_num; omega), max_eq_right (by norm_num)]
  exact BitVec.ofInt_natCast 32 k

/-- The reference's shell of a voxel, as the word it computes. -/
def shellWord (z y : Fin 65) (x : Fin 33) : BitVec 32 :=
  FloatOps.fptosi (F := Ideal) (φ := FTy.f32) 32 (Ideal.liftRound Ideal.roundHalfEven
    (Ideal.sqrt (FloatOps.sitofp (F := Ideal) FTy.f32 (distWord z y x))))

/-- It is `k` where the squared distance lies between the squares of `k`'s half-integer neighbours. -/
theorem shellWord_eq (z y : Fin 65) (x : Fin 33) {k : Nat} (hk : k < 34) (h1 : distSq z y x ≤ k * k + k)
    (h2 : k * k ≤ distSq z y x + k - 1) : shellWord z y x = BitVec.ofNat 32 k := by
  unfold shellWord
  rw [radius_eq, Ideal.liftRound_coe, round_sqrt h1 h2]
  exact fptosi_ofNat (by omega)

end Cert.Proof
-- ==== Proof.RefValue.lean ====
/-
  What the reference computes, entry by entry, from the launched arguments.
-/
module

public import proofs.«01_k».proof.Proof.Gen.ReferenceIdeal.Run
public import proofs.«01_k».proof.Proof.Decoder
public import proofs.«01_k».proof.Proof.Words

@[expose] public section

noncomputable section

namespace Cert.Proof.RefValue

open Cert.ReferenceIdeal Cert.ReferenceIdeal.Value
open Idealize.ShloMosaic Idealize.ShloMosaic.TcCoe

variable (m : (ℓ : Loc nD τ sig) → Buf (Elt Ideal) ℓ)

/-- The latent inputs as launched. -/
def sbArg (c : Dev nD) : S64x128.Idx → EReal := m ((c : Thread nD τ).loc main_arg0)
/-- The parameters as launched. -/
def ppArg (c : Dev nD) : S64x3.Idx → EReal := m ((c : Thread nD τ).loc main_arg1)
/-- The weights as launched. -/
def wArg (c : Dev nD) : S128x278850.Idx → EReal := m ((c : Thread nD τ).loc main_arg2)
/-- The spectral factors as launched. -/
def sfArg (c : Dev nD) : S33.Idx → EReal := m ((c : Thread nD τ).loc main_arg3)

/-- The reference's look-up of the spectral factors, at a voxel: the factor at the voxel's index, read signed and
    brought into the range of the factors. -/
theorem lookup_apply (f : S33.Idx → EReal) (idx : IVec S65x65x33x1 32) (z y : Fin 65) (x : Fin 33) :
    Host.gather gather_S33_S65x65x33x1_S65x65x33_n_0_n_n_0_3_1 f idx (ix3 z y x)
      = f (ix1 ⟨min (idx (ix4 z y x 0)).toInt.toNat 32, by omega⟩) := by
  have hsi (k : Fin gather_S33_S65x65x33x1_S65x65x33_n_0_n_n_0_3_1.startIndexMap.length) :
      gather_S33_S65x65x33x1_S65x65x33_n_0_n_n_0_3_1.siIdx (ix3 z y x) k = ix4 z y x 0 := by
    funext b
    match b with
    | ⟨0, _⟩ => rfl
    | ⟨1, _⟩ => rfl
    | ⟨2, _⟩ => rfl
    | ⟨3, _⟩ => exact Subsingleton.elim (α := Fin 1) _ _
  refine congrArg f (funext fun a => Fin.ext ?_)
  match a with
  | ⟨0, h0⟩ =>
    have hb : gather_S33_S65x65x33x1_S65x65x33_n_0_n_n_0_3_1.batchCoord (ix3 z y x) ⟨0, h0⟩ = 0 :=
      GatherDims.batchCoord_eq_zero _ _ _ List.not_mem_nil
    have ho : gather_S33_S65x65x33x1_S65x65x33_n_0_n_n_0_3_1.offCoord (ix3 z y x) ⟨0, h0⟩ = 0 :=
      GatherDims.offCoord_eq_zero _ _ _ fun h => ((GatherDims.mem_sKept _ _).mp h).1 (List.mem_singleton.mpr rfl)
    show gather_S33_S65x65x33x1_S65x65x33_n_0_n_n_0_3_1.start (ix3 z y x) idx ⟨0, h0⟩ + _ + _ = _
    rw [hb, ho]
    unfold GatherDims.start
    rw [dif_pos (show (⟨0, h0⟩ : Fin 1) ∈ gather_S33_S65x65x33x1_S65x65x33_n_0_n_n_0_3_1.startIndexMap from List.mem_singleton.mpr rfl), hsi]
    rfl

/-- The column of the weights an entry of the volume lies in. -/
def colOf (z y : Fin 65) (x : Fin 33) (p : Fin 2) : Fin 278850 :=
  ⟨((z.val * 65 + y.val) * 33 + x.val) * 2 + p.val, by omega⟩

/-- The decay rate, as the reference writes it. -/
theorem decay_eq (t : EReal) :
    (if 0 < t - Ideal.ofBits FTy.f32 1084227584#32 then t - Ideal.ofBits FTy.f32 1084227584#32
      else Ideal.exp (if 0 < t - Ideal.ofBits FTy.f32 1084227584#32 then 0 else t - Ideal.ofBits FTy.f32 1084227584#32) - 1) + 1
      = decay t := by
  unfold decay
  split_ifs <;> rfl

/-- The reference's result, entry by entry: outside the sphere zero; inside, at the zero frequency the mean and zero,
    elsewhere the weighted sum, times the amplitude and the decay with the shell, times the shell's factor. -/
theorem ref_apply (c : Dev nD) (b : Fin 64) (z y : Fin 65) (x : Fin 33) (p : Fin 2) :
    (res_main_v59 m c : S64x65x65x33x2.Idx → EReal) (ix5 b z y x p)
      = if distSq z y x ≤ 1024 then
          (if shellWord z y x = 0#32 then (if p.val = 0 then ppArg m c (ix2 b 0) else 0)
            else ∑ k : Fin 128, sbArg m c (ix2 b k) * wArg m c (ix2 k (colOf z y x p)))
          * (ppArg m c (ix2 b 1) * Ideal.exp (-(decay (ppArg m c (ix2 b 2))) * FloatOps.sitofp (F := Ideal) FTy.f32 (shellWord z y x)))
          * sfArg m c (ix1 ⟨min (shellWord z y x).toInt.toNat 32, by omega⟩)
        else (0 : EReal) := by
  have hz : id (constant (F := Ideal) S_ FTy.f32 0#32) ix0 = (0 : EReal) := by
    show Ideal.ofBits FTy.f32 0#32 = 0
    simp
  have hcol : (⟨z.val * 4290 + y.val * 66 + x.val * 2 + p.val, by omega⟩ : Fin 278850) = colOf z y x p := by
    apply Fin.ext
    show z.val * 4290 + y.val * 66 + x.val * 2 + p.val = ((z.val * 65 + y.val) * 33 + x.val) * 2 + p.val
    omega
  have hsel (w : BitVec 32) (u v : EReal) : Scalar.select (IntOp.cmpi CmpIPredicate.eq w 0#32) u v = if w = 0#32 then u else v := by
    by_cases h : w = 0#32
    · subst h; rfl
    · rw [if_neg h]
      have : IntOp.cmpi CmpIPredicate.eq w 0#32 = 0#1 := by
        show BitVec.ofBool (w == 0#32) = 0#1
        rw [beq_eq_false_iff_ne.mpr h]; rfl
      rw [this]; rfl
  have hp : ∀ q : Fin 2, BitVec.ofNat 32 q.val = 0#32 ↔ q.val = 0 := by decide
  pointwise [res_main_v59]
  rw [lookup_apply]
  simp only [hz, hcol, hsel, hp]
  pointwise
  rw [decay_eq]
  exact if_congr (inSphere_iff z y x) rfl rfl

end Cert.Proof.RefValue
-- ==== Proof.TableRead.lean ====
/-
  A reader for the printed shell table. The program states its constant as matches of 128 arms; this module turns one
  such match into a lookup in a list, and states the property every entry of the table is checked for: the entry at
  row `n` is the shell of voxel `n`, the nearest integer to its distance from the centre, or 33 where
  that distance is more than 32.
-/
module

public import proofs.«01_k».proof.KernelIdeal.P01
public import Mathlib.Tactic.IntervalCases

@[expose] public section

namespace Cert.Proof.Table

open Cert.KernelIdeal

/-- `f k`, with `k` brought to a numeral first. -/
def force (k : Nat) (f : Nat → Bool) : Bool := Nat.rec (f 0) (fun n _ => f (Nat.succ n)) k

/-- `force` is application. -/
theorem force_eq (k : Nat) (f : Nat → Bool) : force k f = f k := by cases k <;> rfl

/-- The squared distance of voxel `v` (counted row by row in the 65 × 65 × 33 grid) from the centre of the grid's
    first two axes and the start of its third. -/
def dist2 (v : Nat) : Nat :=
  (v / 2145 * (v / 2145) + 1024 - 64 * (v / 2145))
    + (v / 33 % 65 * (v / 33 % 65) + 1024 - 64 * (v / 33 % 65)) + v % 33 * (v % 33)

/-- `k` is the shell of squared distance `r`: 33 outside the sphere of radius 32, and inside it the integer whose
    half-integer neighbours enclose the square root of `r`. -/
def isShell (r k : Nat) : Bool :=
  cond (Nat.ble r 1024) (and (Nat.ble r (k * k + k)) (Nat.ble (k * k) (r + k - 1))) (Nat.beq k 33)

/-- The word `w` is the shell of table row `n`: of voxel `n`. -/
def Ok (n : Nat) (w : BitVec 32) : Bool :=
  force n fun n => force w.toNat fun k => force (dist2 n) fun r => isShell r k

/-- Every word of the list is the shell of its row, the rows counted from `b`. -/
def allOk : Nat → List (BitVec 32) → Bool
  | _, [] => true
  | b, w :: l => and (Ok b w) (allOk (b + 1) l)

/-- A checked list is right at every position. -/
theorem allOk_getD (l : List (BitVec 32)) : ∀ (b x : Nat), allOk b l = true → x < l.length →
    Ok (b + x) (l.getD x 0#32) = true := by
  induction l with
  | nil => intro b x _ hx; exact absurd hx (Nat.not_lt_zero x)
  | cons w l ih =>
    intro b x h hx
    simp only [allOk, Bool.and_eq_true] at h
    cases x with
    | zero => simpa using h.1
    | succ x =>
      have := ih (b + 1) x h.2 (by simpa using hx)
      rw [List.getD_cons_succ, show b + (x + 1) = b + 1 + x by omega]
      exact this

/-- A property of the words of a list together with their positions, the positions counted from `b`. -/
def AllFrom (P : Nat → BitVec 32 → Prop) : Nat → List (BitVec 32) → Prop
  | _, [] => True
  | b, w :: l => P b w ∧ AllFrom P (b + 1) l

/-- A property of all positions holds at each. -/
theorem AllFrom_getD {P : Nat → BitVec 32 → Prop} (l : List (BitVec 32)) : ∀ (b x : Nat), AllFrom P b l →
    x < l.length → P (b + x) (l.getD x 0#32) := by
  induction l with
  | nil => intro b x _ hx; exact absurd hx (Nat.not_lt_zero x)
  | cons w l ih =>
    intro b x h hx
    cases x with
    | zero => simpa using h.1
    | succ x =>
      have := ih (b + 1) x h.2 (by simpa using hx)
      rw [List.getD_cons_succ, show b + (x + 1) = b + 1 + x by omega]
      exact this

section Match

variable
    (a0 a1 a2 a3 a4 a5 a6 a7 a8 a9 a10 a11 a12 a13 a14 a15 a16 a17 a18 a19 a20 a21 a22 a23 a24 a25 a26 a27
      a28 a29 a30 a31 a32 a33 a34 a35 a36 a37 a38 a39 a40 a41 a42 a43 a44 a45 a46 a47 a48 a49 a50 a51 a52 a53
      a54 a55 a56 a57 a58 a59 a60 a61 a62 a63 a64 a65 a66 a67 a68 a69 a70 a71 a72 a73 a74 a75 a76 a77 a78 a79
      a80 a81 a82 a83 a84 a85 a86 a87 a88 a89 a90 a91 a92 a93 a94 a95 a96 a97 a98 a99 a100 a101 a102 a103
      a104 a105 a106 a107 a108 a109 a110 a111 a112 a113 a114 a115 a116 a117 a118 a119 a120 a121 a122 a123
      a124 a125 a126 a127 : BitVec 32)

set_option maxRecDepth 100000 in
/-- A match of 128 arms is a lookup in the list of its arms. -/
theorem match_eq (x : Nat) (hx : x < 128) :
    lit0t0_0.match_1 (fun _ => BitVec 32) x
      (fun _ => a0) (fun _ => a1) (fun _ => a2) (fun _ => a3) (fun _ => a4) (fun _ => a5) (fun _ => a6)
      (fun _ => a7) (fun _ => a8) (fun _ => a9) (fun _ => a10) (fun _ => a11) (fun _ => a12) (fun _ => a13)
      (fun _ => a14) (fun _ => a15) (fun _ => a16) (fun _ => a17) (fun _ => a18) (fun _ => a19)
      (fun _ => a20) (fun _ => a21) (fun _ => a22) (fun _ => a23) (fun _ => a24) (fun _ => a25)
      (fun _ => a26) (fun _ => a27) (fun _ => a28) (fun _ => a29) (fun _ => a30) (fun _ => a31)
      (fun _ => a32) (fun _ => a33) (fun _ => a34) (fun _ => a35) (fun _ => a36) (fun _ => a37)
      (fun _ => a38) (fun _ => a39) (fun _ => a40) (fun _ => a41) (fun _ => a42) (fun _ => a43)
      (fun _ => a44) (fun _ => a45) (fun _ => a46) (fun _ => a47) (fun _ => a48) (fun _ => a49)
      (fun _ => a50) (fun _ => a51) (fun _ => a52) (fun _ => a53) (fun _ => a54) (fun _ => a55)
      (fun _ => a56) (fun _ => a57) (fun _ => a58) (fun _ => a59) (fun _ => a60) (fun _ => a61)
      (fun _ => a62) (fun _ => a63) (fun _ => a64) (fun _ => a65) (fun _ => a66) (fun _ => a67)
      (fun _ => a68) (fun _ => a69) (fun _ => a70) (fun _ => a71) (fun _ => a72) (fun _ => a73)
      (fun _ => a74) (fun _ => a75) (fun _ => a76) (fun _ => a77) (fun _ => a78) (fun _ => a79)
      (fun _ => a80) (fun _ => a81) (fun _ => a82) (fun _ => a83) (fun _ => a84) (fun _ => a85)
      (fun _ => a86) (fun _ => a87) (fun _ => a88) (fun _ => a89) (fun _ => a90) (fun _ => a91)
      (fun _ => a92) (fun _ => a93) (fun _ => a94) (fun _ => a95) (fun _ => a96) (fun _ => a97)
      (fun _ => a98) (fun _ => a99) (fun _ => a100) (fun _ => a101) (fun _ => a102) (fun _ => a103)
      (fun _ => a104) (fun _ => a105) (fun _ => a106) (fun _ => a107) (fun _ => a108) (fun _ => a109)
      (fun _ => a110) (fun _ => a111) (fun _ => a112) (fun _ => a113) (fun _ => a114) (fun _ => a115)
      (fun _ => a116) (fun _ => a117) (fun _ => a118) (fun _ => a119) (fun _ => a120) (fun _ => a121)
      (fun _ => a122) (fun _ => a123) (fun _ => a124) (fun _ => a125) (fun _ => a126) (fun _ => a127) (fun _ => 0#32)
    = List.getD [
      a0, a1, a2, a3, a4, a5, a6, a7, a8, a9, a10, a11, a12, a13, a14, a15, a16, a17, a18, a19, a20, a21,
      a22, a23, a24, a25, a26, a27, a28, a29, a30, a31, a32, a33, a34, a35, a36, a37, a38, a39, a40, a41,
      a42, a43, a44, a45, a46, a47, a48, a49, a50, a51, a52, a53, a54, a55, a56, a57, a58, a59, a60, a61,
      a62, a63, a64, a65, a66, a67, a68, a69, a70, a71, a72, a73, a74, a75, a76, a77, a78, a79, a80, a81,
      a82, a83, a84, a85, a86, a87, a88, a89, a90, a91, a92, a93, a94, a95, a96, a97, a98, a99, a100, a101,
      a102, a103, a104, a105, a106, a107, a108, a109, a110, a111, a112, a113, a114, a115, a116, a117, a118,
      a119, a120, a121, a122, a123, a124, a125, a126, a127] x 0#32 := by
  interval_cases x <;> rfl

/-- A block of 128 entries is right if the list of its arms is. -/
theorem node (g q i : Nat) (hg : i / 16384 = g) (hq : i / 128 % 128 = q)
    (h : allOk (128 * (128 * g + q)) [
      a0, a1, a2, a3, a4, a5, a6, a7, a8, a9, a10, a11, a12, a13, a14, a15, a16, a17, a18, a19, a20, a21,
      a22, a23, a24, a25, a26, a27, a28, a29, a30, a31, a32, a33, a34, a35, a36, a37, a38, a39, a40, a41,
      a42, a43, a44, a45, a46, a47, a48, a49, a50, a51, a52, a53, a54, a55, a56, a57, a58, a59, a60, a61,
      a62, a63, a64, a65, a66, a67, a68, a69, a70, a71, a72, a73, a74, a75, a76, a77, a78, a79, a80, a81,
      a82, a83, a84, a85, a86, a87, a88, a89, a90, a91, a92, a93, a94, a95, a96, a97, a98, a99, a100, a101,
      a102, a103, a104, a105, a106, a107, a108, a109, a110, a111, a112, a113, a114, a115, a116, a117, a118,
      a119, a120, a121, a122, a123, a124, a125, a126, a127] = true) :
    Ok i (lit0t0_0.match_1 (fun _ => BitVec 32) (i % 128)
      (fun _ => a0) (fun _ => a1) (fun _ => a2) (fun _ => a3) (fun _ => a4) (fun _ => a5) (fun _ => a6)
      (fun _ => a7) (fun _ => a8) (fun _ => a9) (fun _ => a10) (fun _ => a11) (fun _ => a12) (fun _ => a13)
      (fun _ => a14) (fun _ => a15) (fun _ => a16) (fun _ => a17) (fun _ => a18) (fun _ => a19)
      (fun _ => a20) (fun _ => a21) (fun _ => a22) (fun _ => a23) (fun _ => a24) (fun _ => a25)
      (fun _ => a26) (fun _ => a27) (fun _ => a28) (fun _ => a29) (fun _ => a30) (fun _ => a31)
      (fun _ => a32) (fun _ => a33) (fun _ => a34) (fun _ => a35) (fun _ => a36) (fun _ => a37)
      (fun _ => a38) (fun _ => a39) (fun _ => a40) (fun _ => a41) (fun _ => a42) (fun _ => a43)
      (fun _ => a44) (fun _ => a45) (fun _ => a46) (fun _ => a47) (fun _ => a48) (fun _ => a49)
      (fun _ => a50) (fun _ => a51) (fun _ => a52) (fun _ => a53) (fun _ => a54) (fun _ => a55)
      (fun _ => a56) (fun _ => a57) (fun _ => a58) (fun _ => a59) (fun _ => a60) (fun _ => a61)
      (fun _ => a62) (fun _ => a63) (fun _ => a64) (fun _ => a65) (fun _ => a66) (fun _ => a67)
      (fun _ => a68) (fun _ => a69) (fun _ => a70) (fun _ => a71) (fun _ => a72) (fun _ => a73)
      (fun _ => a74) (fun _ => a75) (fun _ => a76) (fun _ => a77) (fun _ => a78) (fun _ => a79)
      (fun _ => a80) (fun _ => a81) (fun _ => a82) (fun _ => a83) (fun _ => a84) (fun _ => a85)
      (fun _ => a86) (fun _ => a87) (fun _ => a88) (fun _ => a89) (fun _ => a90) (fun _ => a91)
      (fun _ => a92) (fun _ => a93) (fun _ => a94) (fun _ => a95) (fun _ => a96) (fun _ => a97)
      (fun _ => a98) (fun _ => a99) (fun _ => a100) (fun _ => a101) (fun _ => a102) (fun _ => a103)
      (fun _ => a104) (fun _ => a105) (fun _ => a106) (fun _ => a107) (fun _ => a108) (fun _ => a109)
      (fun _ => a110) (fun _ => a111) (fun _ => a112) (fun _ => a113) (fun _ => a114) (fun _ => a115)
      (fun _ => a116) (fun _ => a117) (fun _ => a118) (fun _ => a119) (fun _ => a120) (fun _ => a121)
      (fun _ => a122) (fun _ => a123) (fun _ => a124) (fun _ => a125) (fun _ => a126) (fun _ => a127) (fun _ => 0#32)) = true := by
  rw [match_eq (hx := Nat.mod_lt _ (by decide))]
  have e : i = 128 * (128 * g + q) + i % 128 := by omega
  have := allOk_getD _ _ (i % 128) h (by simpa using Nat.mod_lt i (by decide : 0 < 128))
  rwa [← e] at this

/-- A block of 128 blocks is right if each of its arms is at the rows that select it. -/
theorem group (i : Nat)
    (h : AllFrom (fun q w => i / 128 % 128 = q → Ok i w = true) 0 [
      a0, a1, a2, a3, a4, a5, a6, a7, a8, a9, a10, a11, a12, a13, a14, a15, a16, a17, a18, a19, a20, a21,
      a22, a23, a24, a25, a26, a27, a28, a29, a30, a31, a32, a33, a34, a35, a36, a37, a38, a39, a40, a41,
      a42, a43, a44, a45, a46, a47, a48, a49, a50, a51, a52, a53, a54, a55, a56, a57, a58, a59, a60, a61,
      a62, a63, a64, a65, a66, a67, a68, a69, a70, a71, a72, a73, a74, a75, a76, a77, a78, a79, a80, a81,
      a82, a83, a84, a85, a86, a87, a88, a89, a90, a91, a92, a93, a94, a95, a96, a97, a98, a99, a100, a101,
      a102, a103, a104, a105, a106, a107, a108, a109, a110, a111, a112, a113, a114, a115, a116, a117, a118,
      a119, a120, a121, a122, a123, a124, a125, a126, a127]) :
    Ok i (lit0t0_0.match_1 (fun _ => BitVec 32) (i / 128 % 128)
      (fun _ => a0) (fun _ => a1) (fun _ => a2) (fun _ => a3) (fun _ => a4) (fun _ => a5) (fun _ => a6)
      (fun _ => a7) (fun _ => a8) (fun _ => a9) (fun _ => a10) (fun _ => a11) (fun _ => a12) (fun _ => a13)
      (fun _ => a14) (fun _ => a15) (fun _ => a16) (fun _ => a17) (fun _ => a18) (fun _ => a19)
      (fun _ => a20) (fun _ => a21) (fun _ => a22) (fun _ => a23) (fun _ => a24) (fun _ => a25)
      (fun _ => a26) (fun _ => a27) (fun _ => a28) (fun _ => a29) (fun _ => a30) (fun _ => a31)
      (fun _ => a32) (fun _ => a33) (fun _ => a34) (fun _ => a35) (fun _ => a36) (fun _ => a37)
      (fun _ => a38) (fun _ => a39) (fun _ => a40) (fun _ => a41) (fun _ => a42) (fun _ => a43)
      (fun _ => a44) (fun _ => a45) (fun _ => a46) (fun _ => a47) (fun _ => a48) (fun _ => a49)
      (fun _ => a50) (fun _ => a51) (fun _ => a52) (fun _ => a53) (fun _ => a54) (fun _ => a55)
      (fun _ => a56) (fun _ => a57) (fun _ => a58) (fun _ => a59) (fun _ => a60) (fun _ => a61)
      (fun _ => a62) (fun _ => a63) (fun _ => a64) (fun _ => a65) (fun _ => a66) (fun _ => a67)
      (fun _ => a68) (fun _ => a69) (fun _ => a70) (fun _ => a71) (fun _ => a72) (fun _ => a73)
      (fun _ => a74) (fun _ => a75) (fun _ => a76) (fun _ => a77) (fun _ => a78) (fun _ => a79)
      (fun _ => a80) (fun _ => a81) (fun _ => a82) (fun _ => a83) (fun _ => a84) (fun _ => a85)
      (fun _ => a86) (fun _ => a87) (fun _ => a88) (fun _ => a89) (fun _ => a90) (fun _ => a91)
      (fun _ => a92) (fun _ => a93) (fun _ => a94) (fun _ => a95) (fun _ => a96) (fun _ => a97)
      (fun _ => a98) (fun _ => a99) (fun _ => a100) (fun _ => a101) (fun _ => a102) (fun _ => a103)
      (fun _ => a104) (fun _ => a105) (fun _ => a106) (fun _ => a107) (fun _ => a108) (fun _ => a109)
      (fun _ => a110) (fun _ => a111) (fun _ => a112) (fun _ => a113) (fun _ => a114) (fun _ => a115)
      (fun _ => a116) (fun _ => a117) (fun _ => a118) (fun _ => a119) (fun _ => a120) (fun _ => a121)
      (fun _ => a122) (fun _ => a123) (fun _ => a124) (fun _ => a125) (fun _ => a126) (fun _ => a127) (fun _ => 0#32)) = true := by
  rw [match_eq (hx := Nat.mod_lt _ (by decide))]
  exact AllFrom_getD _ 0 (i / 128 % 128) h (by simpa using Nat.mod_lt (i / 128) (by decide : 0 < 128)) (Nat.zero_add _).symm

end Match

end Cert.Proof.Table
-- ==== Proof.TableA.lean ====
/-
  The first half of the printed shell table, checked.
-/
module

public import proofs.«01_k».proof.Proof.TableRead
public import proofs.«01_k».proof.KernelIdeal

@[expose] public section

namespace Cert.Proof.Table

open Cert.KernelIdeal

set_option maxRecDepth 100000 in
set_option maxHeartbeats 0 in
/-- Every entry of the first four blocks of the table (16384 rows each) is the shell of its row. -/
theorem ok_first (i : Nat) (hlo : 0 ≤ i / 16384) (hhi : i / 16384 < 4) : Ok i (lit0t i) = true := by
  unfold lit0t
  generalize hg : i / 16384 = g at *
  interval_cases g
  all_goals
    refine group (i := i) (h := ?_)
    repeat' refine And.intro ?_ ?_
  all_goals first
    | trivial
    | (intro hq; refine node (i := i) (hg := hg) (hq := hq) (h := ?_); decide +kernel)

end Cert.Proof.Table
-- ==== Proof.TableB.lean ====
/-
  The other full blocks of the printed shell table, checked.
-/
module

public import proofs.«01_k».proof.Proof.TableRead
public import proofs.«01_k».proof.KernelIdeal

@[expose] public section

namespace Cert.Proof.Table

open Cert.KernelIdeal

set_option maxRecDepth 100000 in
set_option maxHeartbeats 0 in
/-- Every entry of the table's blocks 4 to 7 is the shell of its row. -/
theorem ok_second (i : Nat) (hlo : 4 ≤ i / 16384) (hhi : i / 16384 < 8) : Ok i (lit0t i) = true := by
  unfold lit0t
  generalize hg : i / 16384 = g at *
  interval_cases g
  all_goals
    refine group (i := i) (h := ?_)
    repeat' refine And.intro ?_ ?_
  all_goals first
    | trivial
    | (intro hq; refine node (i := i) (hg := hg) (hq := hq) (h := ?_); decide +kernel)

end Cert.Proof.Table
-- ==== Proof.TableTop.lean ====
/-
  The whole printed shell table, checked: every entry is the shell of its row.
-/
module

public import proofs.«01_k».proof.Proof.TableA
public import proofs.«01_k».proof.Proof.TableB

@[expose] public section

namespace Cert.Proof.Table

open Cert.KernelIdeal

set_option maxRecDepth 100000 in
set_option maxHeartbeats 0 in
/-- The last block of the table, which ends before it is full. -/
theorem ok_last (i : Nat) (hg : i / 16384 = 8) (hi : i < 139425) : Ok i (lit0t i) = true := by
  unfold lit0t
  rw [hg]
  show Ok i (lit0t1_8 i) = true
  unfold lit0t1_8
  by_cases hq : i / 128 % 128 = 65
  · rw [hq]
    have hlo : 139392 ≤ i := by omega
    clear hq hg
    interval_cases i <;> decide +kernel
  · have h65 : i / 128 % 128 < 65 := by omega
    clear hq
    generalize hq : i / 128 % 128 = q at *
    interval_cases q
    all_goals (refine node (i := i) (hg := hg) (hq := hq) (h := ?_); decide +kernel)

/-- Every entry of the printed table is the shell of its row. -/
theorem ok_all (i : Nat) (hi : i < 139425) : Ok i (lit0t i) = true := by
  by_cases h4 : i / 16384 < 4
  · exact ok_first i (Nat.zero_le _) h4
  by_cases h8 : i / 16384 < 8
  · exact ok_second i (by omega) h8
  exact ok_last i (by omega) hi

/-- The shell of table row `n`, as a number. -/
noncomputable def shellNat (n : Nat) : Nat := (lit0t n).toNat

/-- What the check says of a row: outside the sphere the entry is 33, and inside it the entry's half-integer
    neighbours enclose the root of the squared distance. -/
theorem shell_spec (i : Nat) (hi : i < 139425) :
    (dist2 i ≤ 1024 ∧ dist2 i ≤ shellNat i * shellNat i + shellNat i
        ∧ shellNat i * shellNat i ≤ dist2 i + shellNat i - 1)
      ∨ (1024 < dist2 i ∧ shellNat i = 33) := by
  have h := ok_all i hi
  simp only [Ok, force_eq, isShell] at h
  change cond (Nat.ble (dist2 i) 1024) _ _ = true at h
  cases hb : Nat.ble (dist2 i) 1024 with
  | true =>
    rw [hb] at h
    simp only [cond_true, Bool.and_eq_true, Nat.ble_eq] at h
    exact .inl ⟨Nat.le_of_ble_eq_true hb, h.1, h.2⟩
  | false =>
    rw [hb] at h
    simp only [cond_false] at h
    refine .inr ⟨?_, Nat.eq_of_beq_eq_true h⟩
    by_contra hle
    rw [Nat.ble_eq_true_of_le (by omega)] at hb
    exact absurd hb (by decide)

end Cert.Proof.Table
-- ==== Proof.Equation.lean ====
/-
  The kernel's array and the reference's volume agree, entry by entry.
-/
module

public import proofs.«01_k».proof.Proof.IdealArray
public import proofs.«01_k».proof.Proof.RefValue
public import proofs.«01_k».proof.Proof.TableTop

@[expose] public section

noncomputable section

namespace Cert.Proof

open Idealize.ShloMosaic
open Cert.Proof.Table (dist2 shellNat shell_spec)
open Cert.KernelIdeal (lit0t)

/-- The squared distance of a column's voxel, by the column's number. -/
theorem dist2_col (z y : Fin 65) (x : Fin 33) (p : Fin 2) : dist2 ((IdealRun.colOf z y x p).val / 2) = distSq z y x := by
  have hv : (IdealRun.colOf z y x p).val / 2 = (z.val * 65 + y.val) * 33 + x.val := by
    show (((z.val * 65 + y.val) * 33 + x.val) * 2 + p.val) / 2 = _
    omega
  have h1 : ((z.val * 65 + y.val) * 33 + x.val) / 2145 = z.val := by omega
  have h2 : ((z.val * 65 + y.val) * 33 + x.val) / 33 % 65 = y.val := by omega
  have h3 : ((z.val * 65 + y.val) * 33 + x.val) % 33 = x.val := by omega
  unfold dist2 distSq
  rw [hv, h1, h2, h3]

/-- A shifted coordinate's square is zero at 32 only. -/
theorem shiftSq_zero : ∀ z : Fin 65, z.val * z.val + 1024 - 64 * z.val = 0 → z.val = 32 := by decide

/-- The squared distance is zero at the zero frequency's voxel only. -/
theorem distSq_zero_iff (z y : Fin 65) (x : Fin 33) : distSq z y x = 0 ↔ z.val = 32 ∧ y.val = 32 ∧ x.val = 0 := by
  constructor
  · intro h
    unfold distSq at h
    have hx : x.val * x.val = 0 := by omega
    exact ⟨shiftSq_zero z (by omega), shiftSq_zero y (by omega), by simpa using hx⟩
  · rintro ⟨h1, h2, h3⟩
    unfold distSq; rw [h1, h2, h3]

/-- What the table holds as a word, from what it holds as a number. -/
theorem word_of_shellNat {n k : Nat} (h : shellNat n = k) : lit0t n = BitVec.ofNat 32 k := by
  rw [← h]; unfold shellNat; simp

/-- The equation at an entry, over the arguments' values. -/
theorem entry_eq (sb : (⟨2, ![64, 128]⟩ : Shape).Idx → EReal) (pp : (⟨2, ![64, 3]⟩ : Shape).Idx → EReal)
    (W : (⟨2, ![128, 278850]⟩ : Shape).Idx → EReal) (sf : (⟨1, ![33]⟩ : Shape).Idx → EReal)
    (b : Fin 64) (z y : Fin 65) (x : Fin 33) (p : Fin 2) :
    (if (IdealRun.colOf z y x p).val = 139393 then 0
      else if (IdealRun.colOf z y x p).val = 139392 then
        pp (ix2 b 0) * scaleOf (pp (ix2 b 1)) (pp (ix2 b 2)) (if h : (0 : Fin 34).val < 33 then sf (ix1 ⟨(0 : Fin 34).val, h⟩) else 0) 0#32
      else (∑ k : Fin 128, W (ix2 k (IdealRun.colOf z y x p)) * sb (ix2 b k)) * IdealRun.pick (lit0t ((IdealRun.colOf z y x p).val / 2)) fun s =>
        scaleOf (pp (ix2 b 1)) (pp (ix2 b 2)) (if h : s.val < 33 then sf (ix1 ⟨s.val, h⟩) else 0) (BitVec.ofNat 32 s.val))
    = if distSq z y x ≤ 1024 then
          (if shellWord z y x = 0#32 then (if p.val = 0 then pp (ix2 b 0) else 0)
            else ∑ k : Fin 128, sb (ix2 b k) * W (ix2 k (IdealRun.colOf z y x p)))
          * (pp (ix2 b 1) * Ideal.exp (-(decay (pp (ix2 b 2))) * FloatOps.sitofp (F := Ideal) FTy.f32 (shellWord z y x)))
          * sf (ix1 ⟨min (shellWord z y x).toInt.toNat 32, by omega⟩)
        else (0 : EReal) := by
  have hn : (IdealRun.colOf z y x p).val = ((z.val * 65 + y.val) * 33 + x.val) * 2 + p.val := rfl
  have hd := dist2_col z y x p
  have hspec := shell_spec ((IdealRun.colOf z y x p).val / 2) (by omega)
  have hz := distSq_zero_iff z y x
  rw [hd] at hspec
  generalize hk : shellNat ((IdealRun.colOf z y x p).val / 2) = k at hspec
  have hw := word_of_shellNat hk
  rcases hspec with ⟨hin, h1, h2⟩ | ⟨hout, h33⟩
  · -- inside the sphere
    have hk32 : k ≤ 32 := by
      by_contra hc
      have : 33 * k ≤ k * k := Nat.mul_le_mul_right k (by omega)
      omega
    have hs := shellWord_eq z y x (by omega) h1 h2
    have hk0 : k = 0 ↔ distSq z y x = 0 := by
      constructor
      · intro h; subst h; omega
      · intro h
        by_contra hc
        have : k ≤ k * k := Nat.le_mul_self k
        omega
    have hf : (⟨min (BitVec.ofNat 32 k).toInt.toNat 32, by omega⟩ : Fin 33) = ⟨k, by omega⟩ := by
      apply Fin.ext
      show min (BitVec.ofNat 32 k).toInt.toNat 32 = k
      rw [toInt_ofNat_small (by omega)]
      omega
    rw [if_pos hin]
    simp only [hs, hf]
    have hzero : BitVec.ofNat 32 k = 0#32 ↔ k = 0 := by
      constructor
      · intro h
        have := congrArg BitVec.toNat h
        rw [BitVec.toNat_ofNat, BitVec.toNat_ofNat] at this
        omega
      · intro h; rw [h]
    by_cases hc : k = 0
    · -- the zero frequency
      obtain ⟨e1, e2, e3⟩ := hz.mp (hk0.mp hc)
      rw [if_pos (hzero.mpr hc)]
      subst hc
      by_cases hp : p.val = 0
      · rw [if_neg (by omega), if_pos (by omega), if_pos hp, dif_pos (by decide)]
        unfold scaleOf
        rw [zero_sub, ← mul_assoc]
        rfl
      · rw [if_pos (by omega), if_neg hp, zero_mul, zero_mul]
    · -- elsewhere in the sphere
      have hne : ¬ (z.val = 32 ∧ y.val = 32 ∧ x.val = 0) := fun h => hc (hk0.mpr (hz.mpr h))
      rw [if_neg (by omega), if_neg (by omega), if_neg (fun h => hc (hzero.mp h)), hw]
      have hto : (BitVec.ofNat 32 k).toNat = k := by rw [BitVec.toNat_ofNat]; omega
      unfold IdealRun.pick
      rw [IdealRun.oneHot_sum (BitVec.ofNat 32 k) (by omega)]
      simp only [hto]
      rw [dif_pos (by omega)]
      unfold scaleOf
      rw [zero_sub, ← mul_assoc]
      congr 2
      exact Finset.sum_congr rfl fun _ _ => mul_comm _ _
  · -- outside the sphere
    have hne : ¬ (z.val = 32 ∧ y.val = 32 ∧ x.val = 0) := fun h => by
      have := hz.mpr h; omega
    rw [if_neg (by omega), if_neg (by omega), if_neg (by omega), hw]
    subst h33
    unfold IdealRun.pick
    rw [IdealRun.oneHot_sum (BitVec.ofNat 32 33) (by decide), dif_neg (by decide), scaleOf_zero, mul_zero]

end Cert.Proof
-- ==== Proof.Claims.lean ====
/-
  The frame of the reference, and the value claim: the kernel and the reference end with the same volume.
-/
module

public import proofs.«01_k».proof.Defs
public import proofs.«01_k».proof.Proof.KernelFrame
public import proofs.«01_k».proof.Proof.Equation

@[expose] public section

noncomputable section

namespace Cert.Proof

open Idealize.ShloMosaic Idealize.SL.Sem

/-- The reference leaves its arguments unchanged, and no semaphore of it ever holds anything. -/
theorem reference_quiescent : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- An index of the volume is its five coordinates. -/
theorem vol_idx (j : KernelIdeal.S64x65x65x33x2.Idx) : j = ix5 (j 0) (j 1) (j 2) (j 3) (j 4) := by
  funext a
  match a with
  | ⟨0, _⟩ => rfl
  | ⟨1, _⟩ => rfl
  | ⟨2, _⟩ => rfl
  | ⟨3, _⟩ => rfl
  | ⟨4, _⟩ => rfl

/-- The kernel's array at a column and a batch row, as the equation of the two programs has it. -/
theorem outArr_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : RefValue.sbArg m' c = IdealRun.sbArg m c) (h1 : RefValue.ppArg m' c = IdealRun.ppArg m c)
    (h2 : RefValue.wArg m' c = IdealRun.wArg m c) (h3 : RefValue.sfArg m' c = IdealRun.sfArg m c)
    (b : Fin 64) (z y : Fin 65) (x : Fin 33) (p : Fin 2) :
    IdealRun.outArr m c (IdealRun.colOf z y x p) b
      = (ReferenceIdeal.Value.res_main_v59 m' c : ReferenceIdeal.S64x65x65x33x2.Idx → EReal) (ix5 b z y x p) := by
  rw [RefValue.ref_apply, h0, h1, h2, h3]
  unfold IdealRun.outArr IdealRun.sfExt
  exact entry_eq (IdealRun.sbArg m c) (IdealRun.ppArg m c) (IdealRun.wArg m c) (IdealRun.sfArg m c) b z y x p

/-- From equal arguments, the array the kernel leaves is the reference's result, entry by entry. -/
theorem result_entry (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : RefValue.sbArg m' c = IdealRun.sbArg m c) (h1 : RefValue.ppArg m' c = IdealRun.ppArg m c)
    (h2 : RefValue.wArg m' c = IdealRun.wArg m c) (h3 : RefValue.sfArg m' c = IdealRun.sfArg m c)
    (b : Fin 64) (z y : Fin 65) (x : Fin 33) (p : Fin 2) :
    (Pipeline.afterTail₀ KernelIdeal.cfgs (IdealRun.dats m) 0 (KernelIdeal.Gen.V0 m) [KernelIdeal.Gen.hostOps1] c KernelIdeal.main_v0
      : KernelIdeal.S64x65x65x33x2.Idx → EReal) (ix5 b z y x p)
      = (ReferenceIdeal.Value.res_main_v59 m' c : ReferenceIdeal.S64x65x65x33x2.Idx → EReal) (ix5 b z y x p) :=
  ((IdealRun.result_apply m c b z y x p).trans (congrFun (IdealRun.final_out m c) (ix2 (IdealRun.colOf z y x p) b))).trans
    (outArr_eq m m' c h0 h1 h2 h3 b z y x p)

/-- From equal arguments, the kernel's array is the reference's. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : RefValue.sbArg m' c = IdealRun.sbArg m c) (h1 : RefValue.ppArg m' c = IdealRun.ppArg m c)
    (h2 : RefValue.wArg m' c = IdealRun.wArg m c) (h3 : RefValue.sfArg m' c = IdealRun.sfArg m c) :
    (Pipeline.afterTail₀ KernelIdeal.cfgs (IdealRun.dats m) 0 (KernelIdeal.Gen.V0 m) [KernelIdeal.Gen.hostOps1] c KernelIdeal.main_v0
      : KernelIdeal.S64x65x65x33x2.Idx → EReal) = (ReferenceIdeal.Value.res_main_v59 m' c : ReferenceIdeal.S64x65x65x33x2.Idx → EReal) := by
  funext j
  generalize hL : (Pipeline.afterTail₀ KernelIdeal.cfgs (IdealRun.dats m) 0 (KernelIdeal.Gen.V0 m) [KernelIdeal.Gen.hostOps1] c KernelIdeal.main_v0
      : KernelIdeal.S64x65x65x33x2.Idx → EReal) = L
  generalize hR : (ReferenceIdeal.Value.res_main_v59 m' c : ReferenceIdeal.S64x65x65x33x2.Idx → EReal) = R
  have h := result_entry m m' c h0 h1 h2 h3 (j 0) (j 1) (j 2) (j 3) (j 4)
  rw [hL, hR] at h
  rw [vol_idx j]
  exact h

/-- Kernel and reference compute the same volume over the extended reals. -/
theorem same_volume : Cert.algebraic_KernelIdeal_ReferenceIdeal := by
  intro m g m' g' _ hargs
  refine ⟨fun c => Pipeline.afterTail₀ KernelIdeal.cfgs (IdealRun.dats m) 0 (KernelIdeal.Gen.V0 m) [KernelIdeal.Gen.hostOps1] c KernelIdeal.main_v0, ?_, ?_⟩
  · refine (θ_run KernelIdeal.defs _ _).mono (fun r h => fun c => ?_) (IdealRun.main_run m g)
    exact ⟨(h.1 c).2 KernelIdeal.main_v0 (Pipeline.mem_restRefs_of KernelIdeal.main_v0 (by decide) (by decide)),
      ((h.1 c).1 3).trans (((IdealRun.dats m 0 c).arrAt_in 3 rfl _).trans (KernelIdeal.Gen.V_main_arg0 m c)),
      ((h.1 c).2 KernelIdeal.main_arg1 (Pipeline.mem_restRefs_of KernelIdeal.main_arg1 (by decide) (by decide))).trans
        (KernelIdeal.Gen.W_main_arg1 m (IdealRun.dats m) c),
      ((h.1 c).1 4).trans (((IdealRun.dats m 0 c).arrAt_in 4 rfl _).trans (KernelIdeal.Gen.V_main_arg2 m c)),
      ((h.1 c).2 KernelIdeal.main_arg3 (Pipeline.mem_restRefs_of KernelIdeal.main_arg3 (by decide) (by decide))).trans
        (KernelIdeal.Gen.W_main_arg3 m (IdealRun.dats m) c)⟩
  · refine (θ_run ReferenceIdeal.defs _ _).mono (fun r h => fun c => ⟨(h c).1.trans ?_, (h c).2⟩)
      (ReferenceIdeal.Value.run (F := Ideal) m' g')
    obtain ⟨h0, h1, h2, h3⟩ := hargs c
    exact (result_eq m m' c h0 h1 h2 h3).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.IdealFrame
public import proofs.«01_k».proof.Proof.Claims

@[expose] public section

noncomputable section

namespace Cert.Proof

/-- All five claims. -/
theorem claim : Cert.Claim := ⟨Cert.Kernel.Gen.facts, Cert.KernelIdeal.Gen.facts, Cert.ReferenceIdeal.Gen.facts,
  fun m ρ _ => KernelRun.frame_run m ρ,
  fun m ρ _ => IdealRun.frame_run m ρ,
  reference_quiescent,
  trivial,
  same_volume⟩

end Cert.Proof

end
